-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S8x2x512x256 : Shape := ⟨4, ![8, 2, 512, 256]⟩
abbrev S32 : Shape := ⟨1, ![32]⟩
abbrev S_ : Shape := ⟨0, ![]⟩
abbrev S512x512 : Shape := ⟨2, ![512, 512]⟩
abbrev S512x256 : Shape := ⟨2, ![512, 256]⟩
abbrev S1x1x512x256 : Shape := ⟨4, ![1, 1, 512, 256]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S4096x512, .bf16⟩
  | .local _ .vmem, ⟨1, _⟩ => ⟨S512x2048, .bf16⟩
  | .local _ .vmem, ⟨2, _⟩ => ⟨S4096x2048, .f32⟩
  | .local _ .vmem, ⟨3, _⟩ => ⟨S512x2048, .bf16⟩
  | .local _ .vmem, ⟨4, _⟩ => ⟨S8x2x512x256, .bf16⟩
  | .local _ .vmem, ⟨5, _⟩ => ⟨S8x2x512x256, .bf16⟩
  | .local _ .vmem, ⟨6, _⟩ => ⟨S8x2x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 17 67 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v18 : BitVec 32 := Scalar.muli v2 c512_i32
  let v19 : Index := Scalar.indexCast v18
  let c0_13 : Index := 0#32
  ![v19.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_16 : BitVec 32 := 512#32
  let v24 : BitVec 32 := Scalar.muli v2 c512_i32_16
  let v25 : Index := Scalar.indexCast v24
  let c0_17 : Index := 0#32
  ![v25.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_18 : BitVec 32 := 512#32
  let v27 : BitVec 32 := Scalar.muli v2 c512_i32_18
  let v28 : Index := Scalar.indexCast v27
  let c0_19 : Index := 0#32
  ![v28.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_24 : BitVec 32 := 512#32
  let v35 : BitVec 32 := Scalar.muli v2 c512_i32_24
  let v36 : Index := Scalar.indexCast v35
  let c1024 : Index := 1024#32
  ![v36.toNat, 1024]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_28 : BitVec 32 := 512#32
  let v43 : BitVec 32 := Scalar.muli v2 c512_i32_28
  let v44 : Index := Scalar.indexCast v43
  let c256 : Index := 256#32
  ![v44.toNat, 256]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_32 : BitVec 32 := 512#32
  let v51 : BitVec 32 := Scalar.muli v2 c512_i32_32
  let v52 : Index := Scalar.indexCast v51
  let c1280 : Index := 1280#32
  ![v52.toNat, 1280]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_36 : BitVec 32 := 512#32
  let v59 : BitVec 32 := Scalar.muli v2 c512_i32_36
  let v60 : Index := Scalar.indexCast v59
  let c512 : Index := 512#32
  ![v60.toNat, 512]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_40 : BitVec 32 := 512#32
  let v67 : BitVec 32 := Scalar.muli v2 c512_i32_40
  let v68 : Index := Scalar.indexCast v67
  let c1536 : Index := 1536#32
  ![v68.toNat, 1536]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_44 : BitVec 32 := 512#32
  let v75 : BitVec 32 := Scalar.muli v2 c512_i32_44
  let v76 : Index := Scalar.indexCast v75
  let c768 : Index := 768#32
  ![v76.toNat, 768]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_48 : BitVec 32 := 512#32
  let v83 : BitVec 32 := Scalar.muli v2 c512_i32_48
  let v84 : Index := Scalar.indexCast v83
  let c1792 : Index := 1792#32
  ![v84.toNat, 1792]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_58 : BitVec 32 := 1#32
  let v91 : BitVec 32 := Scalar.muli v7 c1_i32_58
  let v92 : BitVec 32 := Scalar.addi c0_i32_59 v91
  v92.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_70 : BitVec 32 := 1#32
  let v101 : BitVec 32 := Scalar.muli v5 c1_i32_70
  let v102 : BitVec 32 := Scalar.addi c0_i32_71 v101
  v102.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_81 : BitVec 32 := 1#32
  let v111 : BitVec 32 := Scalar.muli v7 c1_i32_81
  let v112 : BitVec 32 := Scalar.addi c0_i32_82 v111
  v112.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_91 : BitVec 32 := 1#32
  let v121 : BitVec 32 := Scalar.muli v5 c1_i32_91
  let v122 : BitVec 32 := Scalar.addi c0_i32_92 v121
  v122.toNat
def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_103 : BitVec 32 := 1#32
  let v131 : BitVec 32 := Scalar.muli v7 c1_i32_103
  let v132 : BitVec 32 := Scalar.addi c0_i32_104 v131
  v132.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_113 : BitVec 32 := 1#32
  let v141 : BitVec 32 := Scalar.muli v5 c1_i32_113
  let v142 : BitVec 32 := Scalar.addi c0_i32_114 v141
  v142.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_124 : BitVec 32 := 1#32
  let v151 : BitVec 32 := Scalar.muli v7 c1_i32_124
  let v152 : BitVec 32 := Scalar.addi c0_i32_125 v151
  v152.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_134 : BitVec 32 := 1#32
  let v161 : BitVec 32 := Scalar.muli v5 c1_i32_134
  let v162 : BitVec 32 := Scalar.addi c0_i32_135 v161
  v162.toNat
def k0_off11 (d0 : Dev nD) (c1_i32_140 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v171 : BitVec 32 := Scalar.addi v2 c1_i32_140
  let c8_i32_141 : BitVec 32 := 8#32
  let v172 : BitVec 32 := Scalar.remsi v171 c8_i32_141
  let c512_i32_142 : BitVec 32 := 512#32
  let v173 : BitVec 32 := Scalar.muli v172 c512_i32_142
  let v174 : Index := Scalar.indexCast v173
  let c0_143 : Index := 0#32
  ![v174.toNat, 0]
def k0_off12 (d0 : Dev nD) (c1_i32_140 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v171 : BitVec 32 := Scalar.addi v2 c1_i32_140
  let c8_i32_141 : BitVec 32 := 8#32
  let v172 : BitVec 32 := Scalar.remsi v171 c8_i32_141
  let c512_i32_147 : BitVec 32 := 512#32
  let v179 : BitVec 32 := Scalar.muli v172 c512_i32_147
  let v180 : Index := Scalar.indexCast v179
  let c0_148 : Index := 0#32
  ![v180.toNat, 0]
def k0_off13 (d0 : Dev nD) (c7_i32_249 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v276 : BitVec 32 := Scalar.addi v2 c7_i32_249
  let c8_i32_250 : BitVec 32 := 8#32
  let v277 : BitVec 32 := Scalar.remsi v276 c8_i32_250
  let c512_i32_251 : BitVec 32 := 512#32
  let v278 : BitVec 32 := Scalar.muli v277 c512_i32_251
  let v279 : Index := Scalar.indexCast v278
  let c0_252 : Index := 0#32
  ![v279.toNat, 0]
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_262 : BitVec 32 := 1#32
  let v290 : BitVec 32 := Scalar.muli v5 c1_i32_262
  let v291 : BitVec 32 := Scalar.addi c0_i32_263 v290
  v291.toNat
def k0_off14 (d0 : Dev nD) (c0_i32_264 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : BitVec 32 := Scalar.addi v2 c0_i32_264
  let c1_i32_265 : BitVec 32 := 1#32
  let v293 : BitVec 32 := Scalar.addi v292 c1_i32_265
  let c8_i32_266 : BitVec 32 := 8#32
  let v294 : BitVec 32 := Scalar.remsi v293 c8_i32_266
  let c512_i32_267 : BitVec 32 := 512#32
  let v295 : BitVec 32 := Scalar.muli v294 c512_i32_267
  let v296 : Index := Scalar.indexCast v295
  let c1024_268 : Index := 1024#32
  ![v296.toNat, 1024]
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_278 : BitVec 32 := 1#32
  let v307 : BitVec 32 := Scalar.muli v7 c1_i32_278
  let v308 : BitVec 32 := Scalar.addi c0_i32_279 v307
  v308.toNat
def k0_dev13 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_286 : BitVec 32 := 1#32
  let v309 : BitVec 32 := Scalar.muli v7 c1_i32_286
  let v310 : BitVec 32 := Scalar.addi c0_i32_287 v309
  v310.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_298 : BitVec 32 := 1#32
  let v319 : BitVec 32 := Scalar.muli v5 c1_i32_298
  let v320 : BitVec 32 := Scalar.addi c0_i32_299 v319
  v320.toNat
def k0_off15 (d0 : Dev nD) (c7_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v357 : BitVec 32 := Scalar.addi v2 c7_i32_350
  let c8_i32_351 : BitVec 32 := 8#32
  let v358 : BitVec 32 := Scalar.remsi v357 c8_i32_351
  let c512_i32_352 : BitVec 32 := 512#32
  let v359 : BitVec 32 := Scalar.muli v358 c512_i32_352
  let v360 : Index := Scalar.indexCast v359
  let c256_353 : Index := 256#32
  ![v360.toNat, 256]
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_363 : BitVec 32 := 1#32
  let v371 : BitVec 32 := Scalar.muli v5 c1_i32_363
  let v372 : BitVec 32 := Scalar.addi c0_i32_364 v371
  v372.toNat
def k0_off16 (d0 : Dev nD) (c0_i32_365 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v373 : BitVec 32 := Scalar.addi v2 c0_i32_365
  let c1_i32_366 : BitVec 32 := 1#32
  let v374 : BitVec 32 := Scalar.addi v373 c1_i32_366
  let c8_i32_367 : BitVec 32 := 8#32
  let v375 : BitVec 32 := Scalar.remsi v374 c8_i32_367
  let c512_i32_368 : BitVec 32 := 512#32
  let v376 : BitVec 32 := Scalar.muli v375 c512_i32_368
  let v377 : Index := Scalar.indexCast v376
  let c1280_369 : Index := 1280#32
  ![v377.toNat, 1280]
def k0_dev16 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_379 : BitVec 32 := 1#32
  let v388 : BitVec 32 := Scalar.muli v7 c1_i32_379
  let v389 : BitVec 32 := Scalar.addi c0_i32_380 v388
  v389.toNat
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_387 : BitVec 32 := 1#32
  let v390 : BitVec 32 := Scalar.muli v7 c1_i32_387
  let v391 : BitVec 32 := Scalar.addi c0_i32_388 v390
  v391.toNat
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_399 : BitVec 32 := 1#32
  let v400 : BitVec 32 := Scalar.muli v5 c1_i32_399
  let v401 : BitVec 32 := Scalar.addi c0_i32_400 v400
  v401.toNat
def k0_off17 (d0 : Dev nD) (c7_i32_451 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v438 : BitVec 32 := Scalar.addi v2 c7_i32_451
  let c8_i32_452 : BitVec 32 := 8#32
  let v439 : BitVec 32 := Scalar.remsi v438 c8_i32_452
  let c512_i32_453 : BitVec 32 := 512#32
  let v440 : BitVec 32 := Scalar.muli v439 c512_i32_453
  let v441 : Index := Scalar.indexCast v440
  let c512_454 : Index := 512#32
  ![v441.toNat, 512]
def k0_dev19 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_464 : BitVec 32 := 1#32
  let v452 : BitVec 32 := Scalar.muli v5 c1_i32_464
  let v453 : BitVec 32 := Scalar.addi c0_i32_465 v452
  v453.toNat
def k0_off18 (d0 : Dev nD) (c0_i32_466 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v454 : BitVec 32 := Scalar.addi v2 c0_i32_466
  let c1_i32_467 : BitVec 32 := 1#32
  let v455 : BitVec 32 := Scalar.addi v454 c1_i32_467
  let c8_i32_468 : BitVec 32 := 8#32
  let v456 : BitVec 32 := Scalar.remsi v455 c8_i32_468
  let c512_i32_469 : BitVec 32 := 512#32
  let v457 : BitVec 32 := Scalar.muli v456 c512_i32_469
  let v458 : Index := Scalar.indexCast v457
  let c1536_470 : Index := 1536#32
  ![v458.toNat, 1536]
def k0_dev20 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_480 : BitVec 32 := 1#32
  let v469 : BitVec 32 := Scalar.muli v7 c1_i32_480
  let v470 : BitVec 32 := Scalar.addi c0_i32_481 v469
  v470.toNat
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_487 : BitVec 32 := 1#32
  let v471 : BitVec 32 := Scalar.muli v7 c1_i32_487
  let v472 : BitVec 32 := Scalar.addi c0_i32_488 v471
  v472.toNat
def k0_dev22 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_498 : BitVec 32 := 1#32
  let v481 : BitVec 32 := Scalar.muli v5 c1_i32_498
  let v482 : BitVec 32 := Scalar.addi c0_i32_499 v481
  v482.toNat
def k0_off19 (d0 : Dev nD) (c7_i32_550 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v519 : BitVec 32 := Scalar.addi v2 c7_i32_550
  let c8_i32_551 : BitVec 32 := 8#32
  let v520 : BitVec 32 := Scalar.remsi v519 c8_i32_551
  let c512_i32_552 : BitVec 32 := 512#32
  let v521 : BitVec 32 := Scalar.muli v520 c512_i32_552
  let v522 : Index := Scalar.indexCast v521
  let c768_553 : Index := 768#32
  ![v522.toNat, 768]
def k0_dev23 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_563 : BitVec 32 := 1#32
  let v533 : BitVec 32 := Scalar.muli v5 c1_i32_563
  let v534 : BitVec 32 := Scalar.addi c0_i32_564 v533
  v534.toNat
def k0_off20 (d0 : Dev nD) (c0_i32_565 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v535 : BitVec 32 := Scalar.addi v2 c0_i32_565
  let c1_i32_566 : BitVec 32 := 1#32
  let v536 : BitVec 32 := Scalar.addi v535 c1_i32_566
  let c8_i32_567 : BitVec 32 := 8#32
  let v537 : BitVec 32 := Scalar.remsi v536 c8_i32_567
  let c512_i32_568 : BitVec 32 := 512#32
  let v538 : BitVec 32 := Scalar.muli v537 c512_i32_568
  let v539 : Index := Scalar.indexCast v538
  let c1792_569 : Index := 1792#32
  ![v539.toNat, 1792]
def k0_dev24 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_579 : BitVec 32 := 1#32
  let v550 : BitVec 32 := Scalar.muli v7 c1_i32_579
  let v551 : BitVec 32 := Scalar.addi c0_i32_580 v550
  v551.toNat
def k0_dev25 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_586 : BitVec 32 := 1#32
  let v552 : BitVec 32 := Scalar.muli v7 c1_i32_586
  let v553 : BitVec 32 := Scalar.addi c0_i32_587 v552
  v553.toNat
def k0_dev26 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_597 : BitVec 32 := 1#32
  let v562 : BitVec 32 := Scalar.muli v5 c1_i32_597
  let v563 : BitVec 32 := Scalar.addi c0_i32_598 v562
  v563.toNat
def k0_dev27 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_662 : BitVec 32 := 1#32
  let v614 : BitVec 32 := Scalar.muli v5 c1_i32_662
  let v615 : BitVec 32 := Scalar.addi c0_i32_663 v614
  v615.toNat
def k0_dev28 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_678 : BitVec 32 := 1#32
  let v631 : BitVec 32 := Scalar.muli v7 c1_i32_678
  let v632 : BitVec 32 := Scalar.addi c0_i32_679 v631
  v632.toNat
def k0_dev29 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_688 : BitVec 32 := 1#32
  let v633 : BitVec 32 := Scalar.muli v7 c1_i32_688
  let v634 : BitVec 32 := Scalar.addi c0_i32_689 v633
  v634.toNat
def k0_dev30 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_702 : BitVec 32 := 1#32
  let v643 : BitVec 32 := Scalar.muli v5 c1_i32_702
  let v644 : BitVec 32 := Scalar.addi c0_i32_703 v643
  v644.toNat
def k0_dev31 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_767 : BitVec 32 := 1#32
  let v695 : BitVec 32 := Scalar.muli v5 c1_i32_767
  let v696 : BitVec 32 := Scalar.addi c0_i32_768 v695
  v696.toNat
def k0_dev32 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_783 : BitVec 32 := 1#32
  let v712 : BitVec 32 := Scalar.muli v7 c1_i32_783
  let v713 : BitVec 32 := Scalar.addi c0_i32_784 v712
  v713.toNat
def k0_dev33 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_793 : BitVec 32 := 1#32
  let v714 : BitVec 32 := Scalar.muli v7 c1_i32_793
  let v715 : BitVec 32 := Scalar.addi c0_i32_794 v714
  v715.toNat
def k0_dev34 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_807 : BitVec 32 := 1#32
  let v724 : BitVec 32 := Scalar.muli v5 c1_i32_807
  let v725 : BitVec 32 := Scalar.addi c0_i32_808 v724
  v725.toNat
def k0_dev35 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_872 : BitVec 32 := 1#32
  let v776 : BitVec 32 := Scalar.muli v5 c1_i32_872
  let v777 : BitVec 32 := Scalar.addi c0_i32_873 v776
  v777.toNat
def k0_dev36 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_888 : BitVec 32 := 1#32
  let v793 : BitVec 32 := Scalar.muli v7 c1_i32_888
  let v794 : BitVec 32 := Scalar.addi c0_i32_889 v793
  v794.toNat
def k0_dev37 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_898 : BitVec 32 := 1#32
  let v795 : BitVec 32 := Scalar.muli v7 c1_i32_898
  let v796 : BitVec 32 := Scalar.addi c0_i32_899 v795
  v796.toNat
def k0_dev38 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_912 : BitVec 32 := 1#32
  let v805 : BitVec 32 := Scalar.muli v5 c1_i32_912
  let v806 : BitVec 32 := Scalar.addi c0_i32_913 v805
  v806.toNat
def k0_dev39 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_977 : BitVec 32 := 1#32
  let v857 : BitVec 32 := Scalar.muli v5 c1_i32_977
  let v858 : BitVec 32 := Scalar.addi c0_i32_978 v857
  v858.toNat
def k0_dev40 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_993 : BitVec 32 := 1#32
  let v874 : BitVec 32 := Scalar.muli v7 c1_i32_993
  let v875 : BitVec 32 := Scalar.addi c0_i32_994 v874
  v875.toNat
def k0_dev41 (d0 : Dev nD) : Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1003 : BitVec 32 := 1#32
  let v876 : BitVec 32 := Scalar.muli v7 c1_i32_1003
  let v877 : BitVec 32 := Scalar.addi c0_i32_1004 v876
  v877.toNat
def k0_dev42 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1017 : BitVec 32 := 1#32
  let v886 : BitVec 32 := Scalar.muli v5 c1_i32_1017
  let v887 : BitVec 32 := Scalar.addi c0_i32_1018 v886
  v887.toNat
def k0_dev43 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1082 : BitVec 32 := 1#32
  let v938 : BitVec 32 := Scalar.muli v5 c1_i32_1082
  let v939 : BitVec 32 := Scalar.addi c0_i32_1083 v938
  v939.toNat
def k0_dev44 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1098 : BitVec 32 := 1#32
  let v955 : BitVec 32 := Scalar.muli v7 c1_i32_1098
  let v956 : BitVec 32 := Scalar.addi c0_i32_1099 v955
  v956.toNat
def k0_dev45 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1108 : BitVec 32 := 1#32
  let v957 : BitVec 32 := Scalar.muli v7 c1_i32_1108
  let v958 : BitVec 32 := Scalar.addi c0_i32_1109 v957
  v958.toNat
def k0_dev46 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1122 : BitVec 32 := 1#32
  let v967 : BitVec 32 := Scalar.muli v5 c1_i32_1122
  let v968 : BitVec 32 := Scalar.addi c0_i32_1123 v967
  v968.toNat
def k0_dev47 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1187 : BitVec 32 := 1#32
  let v1019 : BitVec 32 := Scalar.muli v5 c1_i32_1187
  let v1020 : BitVec 32 := Scalar.addi c0_i32_1188 v1019
  v1020.toNat
def k0_dev48 (d0 : Dev nD) : Nat :=
  let c0_i32_1204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1203 : BitVec 32 := 1#32
  let v1036 : BitVec 32 := Scalar.muli v7 c1_i32_1203
  let v1037 : BitVec 32 := Scalar.addi c0_i32_1204 v1036
  v1037.toNat
def k0_dev49 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1213 : BitVec 32 := 1#32
  let v1038 : BitVec 32 := Scalar.muli v7 c1_i32_1213
  let v1039 : BitVec 32 := Scalar.addi c0_i32_1214 v1038
  v1039.toNat
def k0_dev50 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1227 : BitVec 32 := 1#32
  let v1048 : BitVec 32 := Scalar.muli v5 c1_i32_1227
  let v1049 : BitVec 32 := Scalar.addi c0_i32_1228 v1048
  v1049.toNat
def k0_dev51 (d0 : Dev nD) : Nat :=
  let c0_i32_1293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1292 : BitVec 32 := 1#32
  let v1100 : BitVec 32 := Scalar.muli v5 c1_i32_1292
  let v1101 : BitVec 32 := Scalar.addi c0_i32_1293 v1100
  v1101.toNat
def k0_dev52 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1308 : BitVec 32 := 1#32
  let v1117 : BitVec 32 := Scalar.muli v7 c1_i32_1308
  let v1118 : BitVec 32 := Scalar.addi c0_i32_1309 v1117
  v1118.toNat
def k0_dev53 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1318 : BitVec 32 := 1#32
  let v1119 : BitVec 32 := Scalar.muli v7 c1_i32_1318
  let v1120 : BitVec 32 := Scalar.addi c0_i32_1319 v1119
  v1120.toNat
def k0_dev54 (d0 : Dev nD) : Nat :=
  let c0_i32_1333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1332 : BitVec 32 := 1#32
  let v1129 : BitVec 32 := Scalar.muli v5 c1_i32_1332
  let v1130 : BitVec 32 := Scalar.addi c0_i32_1333 v1129
  v1130.toNat
def k0_dev55 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1397 : BitVec 32 := 1#32
  let v1181 : BitVec 32 := Scalar.muli v5 c1_i32_1397
  let v1182 : BitVec 32 := Scalar.addi c0_i32_1398 v1181
  v1182.toNat
def k0_dev56 (d0 : Dev nD) : Nat :=
  let c0_i32_1414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1413 : BitVec 32 := 1#32
  let v1198 : BitVec 32 := Scalar.muli v7 c1_i32_1413
  let v1199 : BitVec 32 := Scalar.addi c0_i32_1414 v1198
  v1199.toNat
def k0_dev57 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1423 : BitVec 32 := 1#32
  let v1200 : BitVec 32 := Scalar.muli v7 c1_i32_1423
  let v1201 : BitVec 32 := Scalar.addi c0_i32_1424 v1200
  v1201.toNat
def k0_dev58 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1437 : BitVec 32 := 1#32
  let v1210 : BitVec 32 := Scalar.muli v5 c1_i32_1437
  let v1211 : BitVec 32 := Scalar.addi c0_i32_1438 v1210
  v1211.toNat
def k0_dev59 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1502 : BitVec 32 := 1#32
  let v1262 : BitVec 32 := Scalar.muli v5 c1_i32_1502
  let v1263 : BitVec 32 := Scalar.addi c0_i32_1503 v1262
  v1263.toNat
def k0_dev60 (d0 : Dev nD) : Nat :=
  let c0_i32_1519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1518 : BitVec 32 := 1#32
  let v1279 : BitVec 32 := Scalar.muli v7 c1_i32_1518
  let v1280 : BitVec 32 := Scalar.addi c0_i32_1519 v1279
  v1280.toNat
def k0_dev61 (d0 : Dev nD) : Nat :=
  let c0_i32_1529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1528 : BitVec 32 := 1#32
  let v1281 : BitVec 32 := Scalar.muli v7 c1_i32_1528
  let v1282 : BitVec 32 := Scalar.addi c0_i32_1529 v1281
  v1282.toNat
def k0_dev62 (d0 : Dev nD) : Nat :=
  let c0_i32_1543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1542 : BitVec 32 := 1#32
  let v1291 : BitVec 32 := Scalar.muli v5 c1_i32_1542
  let v1292 : BitVec 32 := Scalar.addi c0_i32_1543 v1291
  v1292.toNat
def k0_dev63 (d0 : Dev nD) : Nat :=
  let c0_i32_1608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1607 : BitVec 32 := 1#32
  let v1343 : BitVec 32 := Scalar.muli v5 c1_i32_1607
  let v1344 : BitVec 32 := Scalar.addi c0_i32_1608 v1343
  v1344.toNat
def k0_dev64 (d0 : Dev nD) : Nat :=
  let c0_i32_1624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1623 : BitVec 32 := 1#32
  let v1360 : BitVec 32 := Scalar.muli v7 c1_i32_1623
  let v1361 : BitVec 32 := Scalar.addi c0_i32_1624 v1360
  v1361.toNat
def k0_dev65 (d0 : Dev nD) : Nat :=
  let c0_i32_1634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1633 : BitVec 32 := 1#32
  let v1362 : BitVec 32 := Scalar.muli v7 c1_i32_1633
  let v1363 : BitVec 32 := Scalar.addi c0_i32_1634 v1362
  v1363.toNat
def k0_dev66 (d0 : Dev nD) : Nat :=
  let c0_i32_1648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1647 : BitVec 32 := 1#32
  let v1372 : BitVec 32 := Scalar.muli v5 c1_i32_1647
  let v1373 : BitVec 32 := Scalar.addi c0_i32_1648 v1372
  v1373.toNat
def k0_dev67 (d0 : Dev nD) : Nat :=
  let c0_i32_1713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1712 : BitVec 32 := 1#32
  let v1424 : BitVec 32 := Scalar.muli v5 c1_i32_1712
  let v1425 : BitVec 32 := Scalar.addi c0_i32_1713 v1424
  v1425.toNat
def k0_dev68 (d0 : Dev nD) : Nat :=
  let c0_i32_1729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1728 : BitVec 32 := 1#32
  let v1441 : BitVec 32 := Scalar.muli v7 c1_i32_1728
  let v1442 : BitVec 32 := Scalar.addi c0_i32_1729 v1441
  v1442.toNat
def k0_dev69 (d0 : Dev nD) : Nat :=
  let c0_i32_1739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1738 : BitVec 32 := 1#32
  let v1443 : BitVec 32 := Scalar.muli v7 c1_i32_1738
  let v1444 : BitVec 32 := Scalar.addi c0_i32_1739 v1443
  v1444.toNat
def k0_dev70 (d0 : Dev nD) : Nat :=
  let c0_i32_1753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1752 : BitVec 32 := 1#32
  let v1453 : BitVec 32 := Scalar.muli v5 c1_i32_1752
  let v1454 : BitVec 32 := Scalar.addi c0_i32_1753 v1453
  v1454.toNat
def k0_dev71 (d0 : Dev nD) : Nat :=
  let c0_i32_1818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1817 : BitVec 32 := 1#32
  let v1505 : BitVec 32 := Scalar.muli v5 c1_i32_1817
  let v1506 : BitVec 32 := Scalar.addi c0_i32_1818 v1505
  v1506.toNat
def k0_dev72 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1833 : BitVec 32 := 1#32
  let v1522 : BitVec 32 := Scalar.muli v7 c1_i32_1833
  let v1523 : BitVec 32 := Scalar.addi c0_i32_1834 v1522
  v1523.toNat
def k0_dev73 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1843 : BitVec 32 := 1#32
  let v1524 : BitVec 32 := Scalar.muli v7 c1_i32_1843
  let v1525 : BitVec 32 := Scalar.addi c0_i32_1844 v1524
  v1525.toNat
def k0_dev74 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1857 : BitVec 32 := 1#32
  let v1534 : BitVec 32 := Scalar.muli v5 c1_i32_1857
  let v1535 : BitVec 32 := Scalar.addi c0_i32_1858 v1534
  v1535.toNat
def k0_dev75 (d0 : Dev nD) : Nat :=
  let c0_i32_1923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1922 : BitVec 32 := 1#32
  let v1586 : BitVec 32 := Scalar.muli v5 c1_i32_1922
  let v1587 : BitVec 32 := Scalar.addi c0_i32_1923 v1586
  v1587.toNat
def k0_dev76 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1938 : BitVec 32 := 1#32
  let v1603 : BitVec 32 := Scalar.muli v7 c1_i32_1938
  let v1604 : BitVec 32 := Scalar.addi c0_i32_1939 v1603
  v1604.toNat
def k0_dev77 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1948 : BitVec 32 := 1#32
  let v1605 : BitVec 32 := Scalar.muli v7 c1_i32_1948
  let v1606 : BitVec 32 := Scalar.addi c0_i32_1949 v1605
  v1606.toNat
def k0_dev78 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1962 : BitVec 32 := 1#32
  let v1615 : BitVec 32 := Scalar.muli v5 c1_i32_1962
  let v1616 : BitVec 32 := Scalar.addi c0_i32_1963 v1615
  v1616.toNat
def k0_dev79 (d0 : Dev nD) : Nat :=
  let c0_i32_2028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2027 : BitVec 32 := 1#32
  let v1667 : BitVec 32 := Scalar.muli v5 c1_i32_2027
  let v1668 : BitVec 32 := Scalar.addi c0_i32_2028 v1667
  v1668.toNat
def k0_dev80 (d0 : Dev nD) : Nat :=
  let c0_i32_2044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2043 : BitVec 32 := 1#32
  let v1684 : BitVec 32 := Scalar.muli v7 c1_i32_2043
  let v1685 : BitVec 32 := Scalar.addi c0_i32_2044 v1684
  v1685.toNat
def k0_dev81 (d0 : Dev nD) : Nat :=
  let c0_i32_2054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2053 : BitVec 32 := 1#32
  let v1686 : BitVec 32 := Scalar.muli v7 c1_i32_2053
  let v1687 : BitVec 32 := Scalar.addi c0_i32_2054 v1686
  v1687.toNat
def k0_dev82 (d0 : Dev nD) : Nat :=
  let c0_i32_2068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2067 : BitVec 32 := 1#32
  let v1696 : BitVec 32 := Scalar.muli v5 c1_i32_2067
  let v1697 : BitVec 32 := Scalar.addi c0_i32_2068 v1696
  v1697.toNat
def k0_dev83 (d0 : Dev nD) : Nat :=
  let c0_i32_2133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2132 : BitVec 32 := 1#32
  let v1748 : BitVec 32 := Scalar.muli v5 c1_i32_2132
  let v1749 : BitVec 32 := Scalar.addi c0_i32_2133 v1748
  v1749.toNat
def k0_dev84 (d0 : Dev nD) : Nat :=
  let c0_i32_2149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2148 : BitVec 32 := 1#32
  let v1765 : BitVec 32 := Scalar.muli v7 c1_i32_2148
  let v1766 : BitVec 32 := Scalar.addi c0_i32_2149 v1765
  v1766.toNat
def k0_dev85 (d0 : Dev nD) : Nat :=
  let c0_i32_2159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2158 : BitVec 32 := 1#32
  let v1767 : BitVec 32 := Scalar.muli v7 c1_i32_2158
  let v1768 : BitVec 32 := Scalar.addi c0_i32_2159 v1767
  v1768.toNat
def k0_dev86 (d0 : Dev nD) : Nat :=
  let c0_i32_2173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2172 : BitVec 32 := 1#32
  let v1777 : BitVec 32 := Scalar.muli v5 c1_i32_2172
  let v1778 : BitVec 32 := Scalar.addi c0_i32_2173 v1777
  v1778.toNat
def k0_dev87 (d0 : Dev nD) : Nat :=
  let c0_i32_2238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2237 : BitVec 32 := 1#32
  let v1829 : BitVec 32 := Scalar.muli v5 c1_i32_2237
  let v1830 : BitVec 32 := Scalar.addi c0_i32_2238 v1829
  v1830.toNat
def k0_dev88 (d0 : Dev nD) : Nat :=
  let c0_i32_2254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2253 : BitVec 32 := 1#32
  let v1846 : BitVec 32 := Scalar.muli v7 c1_i32_2253
  let v1847 : BitVec 32 := Scalar.addi c0_i32_2254 v1846
  v1847.toNat
def k0_dev89 (d0 : Dev nD) : Nat :=
  let c0_i32_2264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2263 : BitVec 32 := 1#32
  let v1848 : BitVec 32 := Scalar.muli v7 c1_i32_2263
  let v1849 : BitVec 32 := Scalar.addi c0_i32_2264 v1848
  v1849.toNat
def k0_dev90 (d0 : Dev nD) : Nat :=
  let c0_i32_2278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2277 : BitVec 32 := 1#32
  let v1858 : BitVec 32 := Scalar.muli v5 c1_i32_2277
  let v1859 : BitVec 32 := Scalar.addi c0_i32_2278 v1858
  v1859.toNat
def k0_dev91 (d0 : Dev nD) : Nat :=
  let c0_i32_2363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2362 : BitVec 32 := 1#32
  let v1925 : BitVec 32 := Scalar.muli v7 c1_i32_2362
  let v1926 : BitVec 32 := Scalar.addi c0_i32_2363 v1925
  v1926.toNat
def k0_dev92 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2376 : BitVec 32 := 1#32
  let v1935 : BitVec 32 := Scalar.muli v5 c1_i32_2376
  let v1936 : BitVec 32 := Scalar.addi c0_i32_2377 v1935
  v1936.toNat
def k0_dev93 (d0 : Dev nD) : Nat :=
  let c0_i32_2462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2461 : BitVec 32 := 1#32
  let v2002 : BitVec 32 := Scalar.muli v7 c1_i32_2461
  let v2003 : BitVec 32 := Scalar.addi c0_i32_2462 v2002
  v2003.toNat
def k0_dev94 (d0 : Dev nD) : Nat :=
  let c0_i32_2476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2475 : BitVec 32 := 1#32
  let v2012 : BitVec 32 := Scalar.muli v5 c1_i32_2475
  let v2013 : BitVec 32 := Scalar.addi c0_i32_2476 v2012
  v2013.toNat
def k0_dev95 (d0 : Dev nD) : Nat :=
  let c0_i32_2561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2560 : BitVec 32 := 1#32
  let v2079 : BitVec 32 := Scalar.muli v7 c1_i32_2560
  let v2080 : BitVec 32 := Scalar.addi c0_i32_2561 v2079
  v2080.toNat
def k0_dev96 (d0 : Dev nD) : Nat :=
  let c0_i32_2575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2574 : BitVec 32 := 1#32
  let v2089 : BitVec 32 := Scalar.muli v5 c1_i32_2574
  let v2090 : BitVec 32 := Scalar.addi c0_i32_2575 v2089
  v2090.toNat
def k0_dev97 (d0 : Dev nD) : Nat :=
  let c0_i32_2660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2659 : BitVec 32 := 1#32
  let v2156 : BitVec 32 := Scalar.muli v7 c1_i32_2659
  let v2157 : BitVec 32 := Scalar.addi c0_i32_2660 v2156
  v2157.toNat
def k0_dev98 (d0 : Dev nD) : Nat :=
  let c0_i32_2674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2673 : BitVec 32 := 1#32
  let v2166 : BitVec 32 := Scalar.muli v5 c1_i32_2673
  let v2167 : BitVec 32 := Scalar.addi c0_i32_2674 v2166
  v2167.toNat
def k0_dev99 (d0 : Dev nD) : Nat :=
  let c0_i32_2756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2755 : BitVec 32 := 1#32
  let v2233 : BitVec 32 := Scalar.muli v7 c1_i32_2755
  let v2234 : BitVec 32 := Scalar.addi c0_i32_2756 v2233
  v2234.toNat
def k0_dev100 (d0 : Dev nD) : Nat :=
  let c0_i32_2767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2766 : BitVec 32 := 1#32
  let v2243 : BitVec 32 := Scalar.muli v5 c1_i32_2766
  let v2244 : BitVec 32 := Scalar.addi c0_i32_2767 v2243
  v2244.toNat
def k0_dev101 (d0 : Dev nD) : Nat :=
  let c0_i32_2853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2852 : BitVec 32 := 1#32
  let v2316 : BitVec 32 := Scalar.muli v7 c1_i32_2852
  let v2317 : BitVec 32 := Scalar.addi c0_i32_2853 v2316
  v2317.toNat
def k0_dev102 (d0 : Dev nD) : Nat :=
  let c0_i32_2864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2863 : BitVec 32 := 1#32
  let v2326 : BitVec 32 := Scalar.muli v5 c1_i32_2863
  let v2327 : BitVec 32 := Scalar.addi c0_i32_2864 v2326
  v2327.toNat
def k0_dev103 (d0 : Dev nD) : Nat :=
  let c0_i32_2950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2949 : BitVec 32 := 1#32
  let v2399 : BitVec 32 := Scalar.muli v7 c1_i32_2949
  let v2400 : BitVec 32 := Scalar.addi c0_i32_2950 v2399
  v2400.toNat
def k0_dev104 (d0 : Dev nD) : Nat :=
  let c0_i32_2961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2960 : BitVec 32 := 1#32
  let v2409 : BitVec 32 := Scalar.muli v5 c1_i32_2960
  let v2410 : BitVec 32 := Scalar.addi c0_i32_2961 v2409
  v2410.toNat
def k0_dev105 (d0 : Dev nD) : Nat :=
  let c0_i32_3047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3046 : BitVec 32 := 1#32
  let v2482 : BitVec 32 := Scalar.muli v7 c1_i32_3046
  let v2483 : BitVec 32 := Scalar.addi c0_i32_3047 v2482
  v2483.toNat
def k0_dev106 (d0 : Dev nD) : Nat :=
  let c0_i32_3058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3057 : BitVec 32 := 1#32
  let v2492 : BitVec 32 := Scalar.muli v5 c1_i32_3057
  let v2493 : BitVec 32 := Scalar.addi c0_i32_3058 v2492
  v2493.toNat
def k0_dev107 (d0 : Dev nD) : Nat :=
  let c0_i32_3119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3118 : BitVec 32 := 1#32
  let v2536 : BitVec 32 := Scalar.muli v7 c1_i32_3118
  let v2537 : BitVec 32 := Scalar.addi c0_i32_3119 v2536
  v2537.toNat
def k0_dev108 (d0 : Dev nD) : Nat :=
  let c0_i32_3130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3129 : BitVec 32 := 1#32
  let v2546 : BitVec 32 := Scalar.muli v5 c1_i32_3129
  let v2547 : BitVec 32 := Scalar.addi c0_i32_3130 v2546
  v2547.toNat
def k0_off21 (d0 : Dev nD) (c0_i32_3147 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2567 : BitVec 32 := Scalar.addi v2 c0_i32_3147
  let c8_i32_3148 : BitVec 32 := 8#32
  let v2568 : BitVec 32 := Scalar.remsi v2567 c8_i32_3148
  let c512_i32_3149 : BitVec 32 := 512#32
  let v2569 : BitVec 32 := Scalar.muli v2568 c512_i32_3149
  let v2570 : Index := Scalar.indexCast v2569
  let c1024_3150 : Index := 1024#32
  ![v2570.toNat, 1024]
def k0_dev109 (d0 : Dev nD) : Nat :=
  let c0_i32_3203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3202 : BitVec 32 := 1#32
  let v2600 : BitVec 32 := Scalar.muli v7 c1_i32_3202
  let v2601 : BitVec 32 := Scalar.addi c0_i32_3203 v2600
  v2601.toNat
def k0_dev110 (d0 : Dev nD) : Nat :=
  let c0_i32_3214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3213 : BitVec 32 := 1#32
  let v2610 : BitVec 32 := Scalar.muli v5 c1_i32_3213
  let v2611 : BitVec 32 := Scalar.addi c0_i32_3214 v2610
  v2611.toNat
def k0_off22 (d0 : Dev nD) (c0_i32_3231 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2631 : BitVec 32 := Scalar.addi v2 c0_i32_3231
  let c8_i32_3232 : BitVec 32 := 8#32
  let v2632 : BitVec 32 := Scalar.remsi v2631 c8_i32_3232
  let c512_i32_3233 : BitVec 32 := 512#32
  let v2633 : BitVec 32 := Scalar.muli v2632 c512_i32_3233
  let v2634 : Index := Scalar.indexCast v2633
  let c1280_3234 : Index := 1280#32
  ![v2634.toNat, 1280]
def k0_dev111 (d0 : Dev nD) : Nat :=
  let c0_i32_3287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3286 : BitVec 32 := 1#32
  let v2664 : BitVec 32 := Scalar.muli v7 c1_i32_3286
  let v2665 : BitVec 32 := Scalar.addi c0_i32_3287 v2664
  v2665.toNat
def k0_dev112 (d0 : Dev nD) : Nat :=
  let c0_i32_3298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3297 : BitVec 32 := 1#32
  let v2674 : BitVec 32 := Scalar.muli v5 c1_i32_3297
  let v2675 : BitVec 32 := Scalar.addi c0_i32_3298 v2674
  v2675.toNat
def k0_off23 (d0 : Dev nD) (c0_i32_3315 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2695 : BitVec 32 := Scalar.addi v2 c0_i32_3315
  let c8_i32_3316 : BitVec 32 := 8#32
  let v2696 : BitVec 32 := Scalar.remsi v2695 c8_i32_3316
  let c512_i32_3317 : BitVec 32 := 512#32
  let v2697 : BitVec 32 := Scalar.muli v2696 c512_i32_3317
  let v2698 : Index := Scalar.indexCast v2697
  let c1536_3318 : Index := 1536#32
  ![v2698.toNat, 1536]
def k0_dev113 (d0 : Dev nD) : Nat :=
  let c0_i32_3371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3370 : BitVec 32 := 1#32
  let v2728 : BitVec 32 := Scalar.muli v7 c1_i32_3370
  let v2729 : BitVec 32 := Scalar.addi c0_i32_3371 v2728
  v2729.toNat
def k0_dev114 (d0 : Dev nD) : Nat :=
  let c0_i32_3382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3381 : BitVec 32 := 1#32
  let v2738 : BitVec 32 := Scalar.muli v5 c1_i32_3381
  let v2739 : BitVec 32 := Scalar.addi c0_i32_3382 v2738
  v2739.toNat
def k0_off24 (d0 : Dev nD) (c0_i32_3399 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2759 : BitVec 32 := Scalar.addi v2 c0_i32_3399
  let c8_i32_3400 : BitVec 32 := 8#32
  let v2760 : BitVec 32 := Scalar.remsi v2759 c8_i32_3400
  let c512_i32_3401 : BitVec 32 := 512#32
  let v2761 : BitVec 32 := Scalar.muli v2760 c512_i32_3401
  let v2762 : Index := Scalar.indexCast v2761
  let c1792_3402 : Index := 1792#32
  ![v2762.toNat, 1792]
def k0_dev115 (d0 : Dev nD) : Nat :=
  let c0_i32_3451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3450 : BitVec 32 := 1#32
  let v2792 : BitVec 32 := Scalar.muli v5 c1_i32_3450
  let v2793 : BitVec 32 := Scalar.addi c0_i32_3451 v2792
  v2793.toNat
def k0_dev116 (d0 : Dev nD) : Nat :=
  let c0_i32_3454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3453 : BitVec 32 := 1#32
  let v2794 : BitVec 32 := Scalar.muli v7 c1_i32_3453
  let v2795 : BitVec 32 := Scalar.addi c0_i32_3454 v2794
  v2795.toNat
def k0_dev117 (d0 : Dev nD) : Nat :=
  let c0_i32_3464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3463 : BitVec 32 := 1#32
  let v2796 : BitVec 32 := Scalar.muli v7 c1_i32_3463
  let v2797 : BitVec 32 := Scalar.addi c0_i32_3464 v2796
  v2797.toNat
def k0_dev118 (d0 : Dev nD) : Nat :=
  let c0_i32_3478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3477 : BitVec 32 := 1#32
  let v2806 : BitVec 32 := Scalar.muli v5 c1_i32_3477
  let v2807 : BitVec 32 := Scalar.addi c0_i32_3478 v2806
  v2807.toNat
def k0_dev119 (d0 : Dev nD) : Nat :=
  let c0_i32_3547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3546 : BitVec 32 := 1#32
  let v2860 : BitVec 32 := Scalar.muli v5 c1_i32_3546
  let v2861 : BitVec 32 := Scalar.addi c0_i32_3547 v2860
  v2861.toNat
def k0_dev120 (d0 : Dev nD) : Nat :=
  let c0_i32_3550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3549 : BitVec 32 := 1#32
  let v2862 : BitVec 32 := Scalar.muli v7 c1_i32_3549
  let v2863 : BitVec 32 := Scalar.addi c0_i32_3550 v2862
  v2863.toNat
def k0_dev121 (d0 : Dev nD) : Nat :=
  let c0_i32_3560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3559 : BitVec 32 := 1#32
  let v2864 : BitVec 32 := Scalar.muli v7 c1_i32_3559
  let v2865 : BitVec 32 := Scalar.addi c0_i32_3560 v2864
  v2865.toNat
def k0_dev122 (d0 : Dev nD) : Nat :=
  let c0_i32_3574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3573 : BitVec 32 := 1#32
  let v2874 : BitVec 32 := Scalar.muli v5 c1_i32_3573
  let v2875 : BitVec 32 := Scalar.addi c0_i32_3574 v2874
  v2875.toNat
def k0_dev123 (d0 : Dev nD) : Nat :=
  let c0_i32_3643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3642 : BitVec 32 := 1#32
  let v2928 : BitVec 32 := Scalar.muli v5 c1_i32_3642
  let v2929 : BitVec 32 := Scalar.addi c0_i32_3643 v2928
  v2929.toNat
def k0_dev124 (d0 : Dev nD) : Nat :=
  let c0_i32_3646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3645 : BitVec 32 := 1#32
  let v2930 : BitVec 32 := Scalar.muli v7 c1_i32_3645
  let v2931 : BitVec 32 := Scalar.addi c0_i32_3646 v2930
  v2931.toNat
def k0_dev125 (d0 : Dev nD) : Nat :=
  let c0_i32_3656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3655 : BitVec 32 := 1#32
  let v2932 : BitVec 32 := Scalar.muli v7 c1_i32_3655
  let v2933 : BitVec 32 := Scalar.addi c0_i32_3656 v2932
  v2933.toNat
def k0_dev126 (d0 : Dev nD) : Nat :=
  let c0_i32_3670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3669 : BitVec 32 := 1#32
  let v2942 : BitVec 32 := Scalar.muli v5 c1_i32_3669
  let v2943 : BitVec 32 := Scalar.addi c0_i32_3670 v2942
  v2943.toNat
def k0_dev127 (d0 : Dev nD) : Nat :=
  let c0_i32_3739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3738 : BitVec 32 := 1#32
  let v2996 : BitVec 32 := Scalar.muli v5 c1_i32_3738
  let v2997 : BitVec 32 := Scalar.addi c0_i32_3739 v2996
  v2997.toNat
def k0_dev128 (d0 : Dev nD) : Nat :=
  let c0_i32_3742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3741 : BitVec 32 := 1#32
  let v2998 : BitVec 32 := Scalar.muli v7 c1_i32_3741
  let v2999 : BitVec 32 := Scalar.addi c0_i32_3742 v2998
  v2999.toNat
def k0_dev129 (d0 : Dev nD) : Nat :=
  let c0_i32_3752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3751 : BitVec 32 := 1#32
  let v3000 : BitVec 32 := Scalar.muli v7 c1_i32_3751
  let v3001 : BitVec 32 := Scalar.addi c0_i32_3752 v3000
  v3001.toNat
def k0_dev130 (d0 : Dev nD) : Nat :=
  let c0_i32_3766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3765 : BitVec 32 := 1#32
  let v3010 : BitVec 32 := Scalar.muli v5 c1_i32_3765
  let v3011 : BitVec 32 := Scalar.addi c0_i32_3766 v3010
  v3011.toNat
def k0_dev131 (d0 : Dev nD) : Nat :=
  let c0_i32_3835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3834 : BitVec 32 := 1#32
  let v3064 : BitVec 32 := Scalar.muli v5 c1_i32_3834
  let v3065 : BitVec 32 := Scalar.addi c0_i32_3835 v3064
  v3065.toNat
def k0_dev132 (d0 : Dev nD) : Nat :=
  let c0_i32_3838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3837 : BitVec 32 := 1#32
  let v3066 : BitVec 32 := Scalar.muli v7 c1_i32_3837
  let v3067 : BitVec 32 := Scalar.addi c0_i32_3838 v3066
  v3067.toNat
def k0_dev133 (d0 : Dev nD) : Nat :=
  let c0_i32_3848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3847 : BitVec 32 := 1#32
  let v3068 : BitVec 32 := Scalar.muli v7 c1_i32_3847
  let v3069 : BitVec 32 := Scalar.addi c0_i32_3848 v3068
  v3069.toNat
def k0_dev134 (d0 : Dev nD) : Nat :=
  let c0_i32_3862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3861 : BitVec 32 := 1#32
  let v3078 : BitVec 32 := Scalar.muli v5 c1_i32_3861
  let v3079 : BitVec 32 := Scalar.addi c0_i32_3862 v3078
  v3079.toNat
def k0_dev135 (d0 : Dev nD) : Nat :=
  let c0_i32_3931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3930 : BitVec 32 := 1#32
  let v3132 : BitVec 32 := Scalar.muli v5 c1_i32_3930
  let v3133 : BitVec 32 := Scalar.addi c0_i32_3931 v3132
  v3133.toNat
def k0_dev136 (d0 : Dev nD) : Nat :=
  let c0_i32_3934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3933 : BitVec 32 := 1#32
  let v3134 : BitVec 32 := Scalar.muli v7 c1_i32_3933
  let v3135 : BitVec 32 := Scalar.addi c0_i32_3934 v3134
  v3135.toNat
def k0_dev137 (d0 : Dev nD) : Nat :=
  let c0_i32_3944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3943 : BitVec 32 := 1#32
  let v3136 : BitVec 32 := Scalar.muli v7 c1_i32_3943
  let v3137 : BitVec 32 := Scalar.addi c0_i32_3944 v3136
  v3137.toNat
def k0_dev138 (d0 : Dev nD) : Nat :=
  let c0_i32_3958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3957 : BitVec 32 := 1#32
  let v3146 : BitVec 32 := Scalar.muli v5 c1_i32_3957
  let v3147 : BitVec 32 := Scalar.addi c0_i32_3958 v3146
  v3147.toNat
def k0_dev139 (d0 : Dev nD) : Nat :=
  let c0_i32_4027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4026 : BitVec 32 := 1#32
  let v3200 : BitVec 32 := Scalar.muli v5 c1_i32_4026
  let v3201 : BitVec 32 := Scalar.addi c0_i32_4027 v3200
  v3201.toNat
def k0_dev140 (d0 : Dev nD) : Nat :=
  let c0_i32_4030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4029 : BitVec 32 := 1#32
  let v3202 : BitVec 32 := Scalar.muli v7 c1_i32_4029
  let v3203 : BitVec 32 := Scalar.addi c0_i32_4030 v3202
  v3203.toNat
def k0_dev141 (d0 : Dev nD) : Nat :=
  let c0_i32_4040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4039 : BitVec 32 := 1#32
  let v3204 : BitVec 32 := Scalar.muli v7 c1_i32_4039
  let v3205 : BitVec 32 := Scalar.addi c0_i32_4040 v3204
  v3205.toNat
def k0_dev142 (d0 : Dev nD) : Nat :=
  let c0_i32_4054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4053 : BitVec 32 := 1#32
  let v3214 : BitVec 32 := Scalar.muli v5 c1_i32_4053
  let v3215 : BitVec 32 := Scalar.addi c0_i32_4054 v3214
  v3215.toNat
def k0_dev143 (d0 : Dev nD) : Nat :=
  let c0_i32_4123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4122 : BitVec 32 := 1#32
  let v3268 : BitVec 32 := Scalar.muli v5 c1_i32_4122
  let v3269 : BitVec 32 := Scalar.addi c0_i32_4123 v3268
  v3269.toNat
def k0_dev144 (d0 : Dev nD) : Nat :=
  let c0_i32_4126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4125 : BitVec 32 := 1#32
  let v3270 : BitVec 32 := Scalar.muli v7 c1_i32_4125
  let v3271 : BitVec 32 := Scalar.addi c0_i32_4126 v3270
  v3271.toNat
def k0_dev145 (d0 : Dev nD) : Nat :=
  let c0_i32_4136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4135 : BitVec 32 := 1#32
  let v3272 : BitVec 32 := Scalar.muli v7 c1_i32_4135
  let v3273 : BitVec 32 := Scalar.addi c0_i32_4136 v3272
  v3273.toNat
def k0_dev146 (d0 : Dev nD) : Nat :=
  let c0_i32_4150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4149 : BitVec 32 := 1#32
  let v3282 : BitVec 32 := Scalar.muli v5 c1_i32_4149
  let v3283 : BitVec 32 := Scalar.addi c0_i32_4150 v3282
  v3283.toNat
def k0_dev147 (d0 : Dev nD) : Nat :=
  let c0_i32_4219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4218 : BitVec 32 := 1#32
  let v3336 : BitVec 32 := Scalar.muli v5 c1_i32_4218
  let v3337 : BitVec 32 := Scalar.addi c0_i32_4219 v3336
  v3337.toNat
def k0_dev148 (d0 : Dev nD) : Nat :=
  let c0_i32_4222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4221 : BitVec 32 := 1#32
  let v3338 : BitVec 32 := Scalar.muli v7 c1_i32_4221
  let v3339 : BitVec 32 := Scalar.addi c0_i32_4222 v3338
  v3339.toNat
def k0_dev149 (d0 : Dev nD) : Nat :=
  let c0_i32_4232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4231 : BitVec 32 := 1#32
  let v3340 : BitVec 32 := Scalar.muli v7 c1_i32_4231
  let v3341 : BitVec 32 := Scalar.addi c0_i32_4232 v3340
  v3341.toNat
def k0_dev150 (d0 : Dev nD) : Nat :=
  let c0_i32_4246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4245 : BitVec 32 := 1#32
  let v3350 : BitVec 32 := Scalar.muli v5 c1_i32_4245
  let v3351 : BitVec 32 := Scalar.addi c0_i32_4246 v3350
  v3351.toNat
def k0_dev151 (d0 : Dev nD) : Nat :=
  let c0_i32_4315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4314 : BitVec 32 := 1#32
  let v3404 : BitVec 32 := Scalar.muli v5 c1_i32_4314
  let v3405 : BitVec 32 := Scalar.addi c0_i32_4315 v3404
  v3405.toNat
def k0_dev152 (d0 : Dev nD) : Nat :=
  let c0_i32_4318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4317 : BitVec 32 := 1#32
  let v3406 : BitVec 32 := Scalar.muli v7 c1_i32_4317
  let v3407 : BitVec 32 := Scalar.addi c0_i32_4318 v3406
  v3407.toNat
def k0_dev153 (d0 : Dev nD) : Nat :=
  let c0_i32_4328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4327 : BitVec 32 := 1#32
  let v3408 : BitVec 32 := Scalar.muli v7 c1_i32_4327
  let v3409 : BitVec 32 := Scalar.addi c0_i32_4328 v3408
  v3409.toNat
def k0_dev154 (d0 : Dev nD) : Nat :=
  let c0_i32_4342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4341 : BitVec 32 := 1#32
  let v3418 : BitVec 32 := Scalar.muli v5 c1_i32_4341
  let v3419 : BitVec 32 := Scalar.addi c0_i32_4342 v3418
  v3419.toNat
def k0_dev155 (d0 : Dev nD) : Nat :=
  let c0_i32_4411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4410 : BitVec 32 := 1#32
  let v3472 : BitVec 32 := Scalar.muli v5 c1_i32_4410
  let v3473 : BitVec 32 := Scalar.addi c0_i32_4411 v3472
  v3473.toNat
def k0_dev156 (d0 : Dev nD) : Nat :=
  let c0_i32_4414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4413 : BitVec 32 := 1#32
  let v3474 : BitVec 32 := Scalar.muli v7 c1_i32_4413
  let v3475 : BitVec 32 := Scalar.addi c0_i32_4414 v3474
  v3475.toNat
def k0_dev157 (d0 : Dev nD) : Nat :=
  let c0_i32_4424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4423 : BitVec 32 := 1#32
  let v3476 : BitVec 32 := Scalar.muli v7 c1_i32_4423
  let v3477 : BitVec 32 := Scalar.addi c0_i32_4424 v3476
  v3477.toNat
def k0_dev158 (d0 : Dev nD) : Nat :=
  let c0_i32_4438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4437 : BitVec 32 := 1#32
  let v3486 : BitVec 32 := Scalar.muli v5 c1_i32_4437
  let v3487 : BitVec 32 := Scalar.addi c0_i32_4438 v3486
  v3487.toNat
def k0_dev159 (d0 : Dev nD) : Nat :=
  let c0_i32_4507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4506 : BitVec 32 := 1#32
  let v3540 : BitVec 32 := Scalar.muli v5 c1_i32_4506
  let v3541 : BitVec 32 := Scalar.addi c0_i32_4507 v3540
  v3541.toNat
def k0_dev160 (d0 : Dev nD) : Nat :=
  let c0_i32_4510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4509 : BitVec 32 := 1#32
  let v3542 : BitVec 32 := Scalar.muli v7 c1_i32_4509
  let v3543 : BitVec 32 := Scalar.addi c0_i32_4510 v3542
  v3543.toNat
def k0_dev161 (d0 : Dev nD) : Nat :=
  let c0_i32_4520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4519 : BitVec 32 := 1#32
  let v3544 : BitVec 32 := Scalar.muli v7 c1_i32_4519
  let v3545 : BitVec 32 := Scalar.addi c0_i32_4520 v3544
  v3545.toNat
def k0_dev162 (d0 : Dev nD) : Nat :=
  let c0_i32_4534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4533 : BitVec 32 := 1#32
  let v3554 : BitVec 32 := Scalar.muli v5 c1_i32_4533
  let v3555 : BitVec 32 := Scalar.addi c0_i32_4534 v3554
  v3555.toNat
def k0_dev163 (d0 : Dev nD) : Nat :=
  let c0_i32_4603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4602 : BitVec 32 := 1#32
  let v3608 : BitVec 32 := Scalar.muli v5 c1_i32_4602
  let v3609 : BitVec 32 := Scalar.addi c0_i32_4603 v3608
  v3609.toNat
def k0_dev164 (d0 : Dev nD) : Nat :=
  let c0_i32_4606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4605 : BitVec 32 := 1#32
  let v3610 : BitVec 32 := Scalar.muli v7 c1_i32_4605
  let v3611 : BitVec 32 := Scalar.addi c0_i32_4606 v3610
  v3611.toNat
def k0_dev165 (d0 : Dev nD) : Nat :=
  let c0_i32_4616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4615 : BitVec 32 := 1#32
  let v3612 : BitVec 32 := Scalar.muli v7 c1_i32_4615
  let v3613 : BitVec 32 := Scalar.addi c0_i32_4616 v3612
  v3613.toNat
def k0_dev166 (d0 : Dev nD) : Nat :=
  let c0_i32_4630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4629 : BitVec 32 := 1#32
  let v3622 : BitVec 32 := Scalar.muli v5 c1_i32_4629
  let v3623 : BitVec 32 := Scalar.addi c0_i32_4630 v3622
  v3623.toNat
def k0_dev167 (d0 : Dev nD) : Nat :=
  let c0_i32_4699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4698 : BitVec 32 := 1#32
  let v3676 : BitVec 32 := Scalar.muli v5 c1_i32_4698
  let v3677 : BitVec 32 := Scalar.addi c0_i32_4699 v3676
  v3677.toNat
def k0_dev168 (d0 : Dev nD) : Nat :=
  let c0_i32_4702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4701 : BitVec 32 := 1#32
  let v3678 : BitVec 32 := Scalar.muli v7 c1_i32_4701
  let v3679 : BitVec 32 := Scalar.addi c0_i32_4702 v3678
  v3679.toNat
def k0_dev169 (d0 : Dev nD) : Nat :=
  let c0_i32_4712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4711 : BitVec 32 := 1#32
  let v3680 : BitVec 32 := Scalar.muli v7 c1_i32_4711
  let v3681 : BitVec 32 := Scalar.addi c0_i32_4712 v3680
  v3681.toNat
def k0_dev170 (d0 : Dev nD) : Nat :=
  let c0_i32_4726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4725 : BitVec 32 := 1#32
  let v3690 : BitVec 32 := Scalar.muli v5 c1_i32_4725
  let v3691 : BitVec 32 := Scalar.addi c0_i32_4726 v3690
  v3691.toNat
def k0_dev171 (d0 : Dev nD) : Nat :=
  let c0_i32_4795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4794 : BitVec 32 := 1#32
  let v3744 : BitVec 32 := Scalar.muli v5 c1_i32_4794
  let v3745 : BitVec 32 := Scalar.addi c0_i32_4795 v3744
  v3745.toNat
def k0_dev172 (d0 : Dev nD) : Nat :=
  let c0_i32_4798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4797 : BitVec 32 := 1#32
  let v3746 : BitVec 32 := Scalar.muli v7 c1_i32_4797
  let v3747 : BitVec 32 := Scalar.addi c0_i32_4798 v3746
  v3747.toNat
def k0_dev173 (d0 : Dev nD) : Nat :=
  let c0_i32_4808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4807 : BitVec 32 := 1#32
  let v3748 : BitVec 32 := Scalar.muli v7 c1_i32_4807
  let v3749 : BitVec 32 := Scalar.addi c0_i32_4808 v3748
  v3749.toNat
def k0_dev174 (d0 : Dev nD) : Nat :=
  let c0_i32_4822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4821 : BitVec 32 := 1#32
  let v3758 : BitVec 32 := Scalar.muli v5 c1_i32_4821
  let v3759 : BitVec 32 := Scalar.addi c0_i32_4822 v3758
  v3759.toNat
def k0_dev175 (d0 : Dev nD) : Nat :=
  let c0_i32_4891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4890 : BitVec 32 := 1#32
  let v3812 : BitVec 32 := Scalar.muli v5 c1_i32_4890
  let v3813 : BitVec 32 := Scalar.addi c0_i32_4891 v3812
  v3813.toNat
def k0_dev176 (d0 : Dev nD) : Nat :=
  let c0_i32_4894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4893 : BitVec 32 := 1#32
  let v3814 : BitVec 32 := Scalar.muli v7 c1_i32_4893
  let v3815 : BitVec 32 := Scalar.addi c0_i32_4894 v3814
  v3815.toNat
def k0_dev177 (d0 : Dev nD) : Nat :=
  let c0_i32_4904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4903 : BitVec 32 := 1#32
  let v3816 : BitVec 32 := Scalar.muli v7 c1_i32_4903
  let v3817 : BitVec 32 := Scalar.addi c0_i32_4904 v3816
  v3817.toNat
def k0_dev178 (d0 : Dev nD) : Nat :=
  let c0_i32_4918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4917 : BitVec 32 := 1#32
  let v3826 : BitVec 32 := Scalar.muli v5 c1_i32_4917
  let v3827 : BitVec 32 := Scalar.addi c0_i32_4918 v3826
  v3827.toNat
def k0_dev179 (d0 : Dev nD) : Nat :=
  let c0_i32_4987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4986 : BitVec 32 := 1#32
  let v3880 : BitVec 32 := Scalar.muli v5 c1_i32_4986
  let v3881 : BitVec 32 := Scalar.addi c0_i32_4987 v3880
  v3881.toNat
def k0_dev180 (d0 : Dev nD) : Nat :=
  let c0_i32_4990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4989 : BitVec 32 := 1#32
  let v3882 : BitVec 32 := Scalar.muli v7 c1_i32_4989
  let v3883 : BitVec 32 := Scalar.addi c0_i32_4990 v3882
  v3883.toNat
def k0_dev181 (d0 : Dev nD) : Nat :=
  let c0_i32_5000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4999 : BitVec 32 := 1#32
  let v3884 : BitVec 32 := Scalar.muli v7 c1_i32_4999
  let v3885 : BitVec 32 := Scalar.addi c0_i32_5000 v3884
  v3885.toNat
def k0_dev182 (d0 : Dev nD) : Nat :=
  let c0_i32_5014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5013 : BitVec 32 := 1#32
  let v3894 : BitVec 32 := Scalar.muli v5 c1_i32_5013
  let v3895 : BitVec 32 := Scalar.addi c0_i32_5014 v3894
  v3895.toNat
def k0_dev183 (d0 : Dev nD) : Nat :=
  let c0_i32_5083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5082 : BitVec 32 := 1#32
  let v3948 : BitVec 32 := Scalar.muli v5 c1_i32_5082
  let v3949 : BitVec 32 := Scalar.addi c0_i32_5083 v3948
  v3949.toNat
def k0_dev184 (d0 : Dev nD) : Nat :=
  let c0_i32_5086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5085 : BitVec 32 := 1#32
  let v3950 : BitVec 32 := Scalar.muli v7 c1_i32_5085
  let v3951 : BitVec 32 := Scalar.addi c0_i32_5086 v3950
  v3951.toNat
def k0_dev185 (d0 : Dev nD) : Nat :=
  let c0_i32_5096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5095 : BitVec 32 := 1#32
  let v3952 : BitVec 32 := Scalar.muli v7 c1_i32_5095
  let v3953 : BitVec 32 := Scalar.addi c0_i32_5096 v3952
  v3953.toNat
def k0_dev186 (d0 : Dev nD) : Nat :=
  let c0_i32_5110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5109 : BitVec 32 := 1#32
  let v3962 : BitVec 32 := Scalar.muli v5 c1_i32_5109
  let v3963 : BitVec 32 := Scalar.addi c0_i32_5110 v3962
  v3963.toNat
def k0_dev187 (d0 : Dev nD) : Nat :=
  let c0_i32_5179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5178 : BitVec 32 := 1#32
  let v4016 : BitVec 32 := Scalar.muli v5 c1_i32_5178
  let v4017 : BitVec 32 := Scalar.addi c0_i32_5179 v4016
  v4017.toNat
def k0_dev188 (d0 : Dev nD) : Nat :=
  let c0_i32_5182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5181 : BitVec 32 := 1#32
  let v4018 : BitVec 32 := Scalar.muli v7 c1_i32_5181
  let v4019 : BitVec 32 := Scalar.addi c0_i32_5182 v4018
  v4019.toNat
def k0_dev189 (d0 : Dev nD) : Nat :=
  let c0_i32_5192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5191 : BitVec 32 := 1#32
  let v4020 : BitVec 32 := Scalar.muli v7 c1_i32_5191
  let v4021 : BitVec 32 := Scalar.addi c0_i32_5192 v4020
  v4021.toNat
def k0_dev190 (d0 : Dev nD) : Nat :=
  let c0_i32_5206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5205 : BitVec 32 := 1#32
  let v4030 : BitVec 32 := Scalar.muli v5 c1_i32_5205
  let v4031 : BitVec 32 := Scalar.addi c0_i32_5206 v4030
  v4031.toNat
def k0_dev191 (d0 : Dev nD) : Nat :=
  let c0_i32_5275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5274 : BitVec 32 := 1#32
  let v4084 : BitVec 32 := Scalar.muli v5 c1_i32_5274
  let v4085 : BitVec 32 := Scalar.addi c0_i32_5275 v4084
  v4085.toNat
def k0_dev192 (d0 : Dev nD) : Nat :=
  let c0_i32_5278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5277 : BitVec 32 := 1#32
  let v4086 : BitVec 32 := Scalar.muli v7 c1_i32_5277
  let v4087 : BitVec 32 := Scalar.addi c0_i32_5278 v4086
  v4087.toNat
def k0_dev193 (d0 : Dev nD) : Nat :=
  let c0_i32_5288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5287 : BitVec 32 := 1#32
  let v4088 : BitVec 32 := Scalar.muli v7 c1_i32_5287
  let v4089 : BitVec 32 := Scalar.addi c0_i32_5288 v4088
  v4089.toNat
def k0_dev194 (d0 : Dev nD) : Nat :=
  let c0_i32_5302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_5301 : BitVec 32 := 1#32
  let v4098 : BitVec 32 := Scalar.muli v5 c1_i32_5301
  let v4099 : BitVec 32 := Scalar.addi c0_i32_5302 v4098
  v4099.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Steps.lean ====
/-
# The kernel's body as a program over rings and steps

The body is one straight line of some thousand operations. Here the same line is written once per kind of step, as a
function of the ring `r : Fin 8` and of the step's number, and shown to be the body. Ring `2 q` carries the `q`-th
column block of the left half of the result to the right; ring `2 q + 1` carries the `q`-th column block of the right
half to the left. Each ring sends seven messages in each of two phases: phase `0` adds up, phase `1` hands round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic Idealize.SL.Sem

variable {F : FTy → Type} [FloatOps F]

/-! ## Buffers, slots and semaphores -/

abbrev xM : Memref sig .tc .vmem S4096x512 .bf16 := Memref.whole cc0_stg0_0
abbrev wM : Memref sig .tc .vmem S512x2048 .bf16 := Memref.whole cc0_stg1_0
abbrev oM : Memref sig .tc .vmem S4096x2048 .f32 := Memref.whole cc0_stg2_0
abbrev cM : Memref sig .tc .vmem S512x2048 .bf16 := Memref.whole cc0_scratch0

/-- The three buffers of slots: staged blocks, blocks received while adding up, blocks received while handing round. -/
inductive Bf | st | rs | ag
  deriving DecidableEq

/-- The buffer in memory. -/
def bfR : Bf → Ref sig .tc
  | .st => cc0_scratch1
  | .rs => cc0_scratch2
  | .ag => cc0_scratch3

def bfM : Bf → Memref sig .tc .vmem S8x2x512x256 .bf16
  | .st => Memref.whole cc0_scratch1
  | .rs => Memref.whole cc0_scratch2
  | .ag => Memref.whole cc0_scratch3

theorem bfM_whole (b : Bf) : (bfM b).IsWhole := by cases b <;> exact Memref.isWhole_whole _

/-- A number's parity, as a slot's number. -/
def par (t : ℕ) : Fin 2 := ⟨t % 2, Nat.mod_lt _ (by decide)⟩

theorem slot_inb (r : Fin 8) (j : Fin 2) : ∀ a, (![r.val, j.val, 0, 0] : Fin 4 → ℕ) a + S1x1x512x256.size a ≤ S8x2x512x256.size a := by
  revert r j; decide +kernel

/-- Slot `j` of ring `r` in a buffer of slots. -/
abbrev slotR (r : Fin 8) (j : Fin 2) : Rect S8x2x512x256 :=
  Rect.unit (s := S8x2x512x256) ![r.val, j.val, 0, 0] S1x1x512x256.size (slot_inb r j)

theorem slot_packed (r : Fin 8) (j : Fin 2) : (slotR r j).PackedRows (EltTy.packing .bf16) := by
  revert r j; decide +kernel

theorem slot_words (r : Fin 8) (j : Fin 2) : (slotR r j).WholeWords (EltTy.packing .bf16) := by
  revert r j; decide +kernel

/-- The slot as the block a transfer moves. -/
abbrev slotM (b : Bf) (r : Fin 8) (j : Fin 2) : Memref sig .tc .vmem S512x256 .bf16 :=
  ((bfM b).slice (slotR r j) (fun _ => rfl)).squeeze S512x256 squeezes_S1x1x512x256_S512x256

theorem slotM_exact (b : Bf) (r : Fin 8) (j : Fin 2) : (slotM b r j).view.WordExact :=
  ((bfM_whole b).wordExact_slice rfl _ (slot_words r j)).reshape _ _

/-- The semaphore of a message: phase `p`, ring `r`, slot `j`. -/
abbrev semIx (p : Fin 2) (r : Fin 8) (j : Fin 2) : ℕ := 16 * p.val + 2 * r.val + j.val

theorem sem_inb (p : Fin 2) (r : Fin 8) (j : Fin 2) : ∀ a, (![semIx p r j] : Fin 1 → ℕ) a + S1.size a ≤ S32.size a := by
  revert p r j; decide +kernel

abbrev sndS (p : Fin 2) (r : Fin 8) (j : Fin 2) : DmaSems sig S_ :=
  ((cc0_scratch4 : DmaSems sig S32).slice (Rect.unit (s := S32) ![semIx p r j] S1.size (sem_inb p r j))).squeeze S_ squeezes_S1_S_

abbrev rcvS (p : Fin 2) (r : Fin 8) (j : Fin 2) : DmaSems sig S_ :=
  ((cc0_scratch5 : DmaSems sig S32).slice (Rect.unit (s := S32) ![semIx p r j] S1.size (sem_inb p r j))).squeeze S_ squeezes_S1_S_

/-- The credit semaphore of a ring in a phase: its receiver says there that a slot is free again. -/
def crdS (p : Fin 2) (r : Fin 8) : Sems sig S_ :=
  match p, r with
  | 0, 0 => cc0_scratch6 | 0, 1 => cc0_scratch7 | 0, 2 => cc0_scratch8 | 0, 3 => cc0_scratch9
  | 0, 4 => cc0_scratch10 | 0, 5 => cc0_scratch11 | 0, 6 => cc0_scratch12 | 0, 7 => cc0_scratch13
  | 1, 0 => cc0_scratch14 | 1, 1 => cc0_scratch15 | 1, 2 => cc0_scratch16 | 1, 3 => cc0_scratch17
  | 1, 4 => cc0_scratch18 | 1, 5 => cc0_scratch19 | 1, 6 => cc0_scratch20 | 1, 7 => cc0_scratch21

abbrev barS : Sems sig S_ := SemArray.scalar (sig.barrier 0 rfl)

/-! ## Devices and places in the result -/

/-- The device a ring sends to. -/
def tgtN (r : Fin 8) (d : Dev nD) : ℕ := if r.val % 2 = 0 then k0_dev3 d else k0_dev4 d
theorem tgtN_lt (r : Fin 8) (d : Dev nD) : tgtN r d < nD := by revert r d; decide +kernel
/-- The device a ring receives from. -/
def wrtN (r : Fin 8) (d : Dev nD) : ℕ := if r.val % 2 = 0 then k0_dev4 d else k0_dev3 d
theorem wrtN_lt (r : Fin 8) (d : Dev nD) : wrtN r d < nD := by revert r d; decide +kernel

abbrev tgtD (r : Fin 8) (d : Dev nD) : Dev nD := ⟨tgtN r d, tgtN_lt r d⟩
abbrev wrtD (r : Fin 8) (d : Dev nD) : Dev nD := ⟨wrtN r d, wrtN_lt r d⟩

/-- The block of rows a ring works on: in phase `0` at step `s` the one received, in phase `1` likewise. -/
def chunkW (p : Fin 2) (r : Fin 8) (s : ℕ) (d : Dev nD) : BitVec 32 :=
  let v2 : BitVec 32 := Scalar.remsi (Scalar.divsi (Dev.word d) 1#32) 8#32
  if r.val % 2 = 0 then Scalar.remsi (Scalar.addi v2 (BitVec.ofNat 32 (7 + p.val - s))) 8#32
  else if p.val = 0 then Scalar.remsi (Scalar.addi (Scalar.addi v2 (BitVec.ofNat 32 s)) 1#32) 8#32
  else Scalar.remsi (Scalar.addi v2 (BitVec.ofNat 32 s)) 8#32

/-- The first column of a ring's block. -/
abbrev colN (r : Fin 8) : ℕ := 1024 * (r.val % 2) + 256 * (r.val / 2)

/-- The corner of a ring's tile of the result. -/
def tileO (p : Fin 2) (r : Fin 8) (s : ℕ) (d : Dev nD) : Fin 2 → ℕ :=
  ![(Scalar.indexCast (Scalar.muli (chunkW p r s d) 512#32)).toNat, colN r]

/-- The block of rows of the device's own number, in a ring's columns. -/
def ownO (r : Fin 8) (d : Dev nD) : Fin 2 → ℕ :=
  ![(Scalar.indexCast (Scalar.muli (Scalar.remsi (Scalar.divsi (Dev.word d) 1#32) 8#32) 512#32)).toNat, colN r]

/-- The block of rows, as a number. -/
def chunkN (p : Fin 2) (r : Fin 8) (s : ℕ) (d : ℕ) : ℕ :=
  if r.val % 2 = 0 then (d + (7 + p.val - s)) % 8 else (d + s + (1 - p.val)) % 8

theorem tileO_eq (p : Fin 2) (r : Fin 8) (s : Fin 7) (d : Dev nD) : tileO p r s.val d = ![512 * chunkN p r s.val d.val, colN r] := by
  revert p r s d; decide +kernel

theorem tileO_inb (p : Fin 2) (r : Fin 8) (s : Fin 7) (d : Dev nD) : ∀ a, tileO p r s.val d a + S512x256.size a ≤ S4096x2048.size a := by
  revert p r s d; decide +kernel

theorem ownO_eq (r : Fin 8) (d : Dev nD) : ownO r d = ![512 * d.val, colN r] := by
  revert r d; decide +kernel

theorem ownO_inb (r : Fin 8) (d : Dev nD) : ∀ a, ownO r d a + S512x256.size a ≤ S4096x2048.size a := by
  revert r d; decide +kernel

abbrev tileR (p : Fin 2) (r : Fin 8) (s : Fin 7) (d : Dev nD) : Rect S4096x2048 :=
  Rect.unit (s := S4096x2048) (tileO p r s.val d) S512x256.size (tileO_inb p r s d)

abbrev ownR (r : Fin 8) (d : Dev nD) : Rect S4096x2048 :=
  Rect.unit (s := S4096x2048) (ownO r d) S512x256.size (ownO_inb r d)

/-! ## What is stored -/

/-- A partial sum with a received block added. -/
def accP (o : Vec F S512x256 .f32) (v : Vec F S1x1x512x256 .bf16) : FVec F S512x256 .f32 :=
  addf (shapeCast S512x256 o shapeCasts_S512x256_S512x256) (extf .f32 (shapeCast S512x256 v shapeCasts_S1x1x512x256_S512x256 : FVec F S512x256 .bf16) bitsLt_bf16_f32)

/-- A block narrowed, as it is staged for sending. -/
def stgP (t : FVec F S512x256 .f32) : FVec F S1x1x512x256 .bf16 :=
  shapeCast S1x1x512x256 (truncf .bf16 t bitsLt_bf16_f32 : FVec F S512x256 .bf16) shapeCasts_S512x256_S1x1x512x256

/-- A received block widened, as it enters the result. -/
def outP (v : Vec F S1x1x512x256 .bf16) : FVec F S512x256 .f32 :=
  extf .f32 (shapeCast S512x256 v shapeCasts_S1x1x512x256_S512x256 : FVec F S512x256 .bf16) bitsLt_bf16_f32

/-! ## The steps, each followed by the rest of the program -/

abbrev P (F : FTy → Type) : Type 1 := Prog (TpuEff nD τ sig (Elt F) Λ₀ .tc) PUnit

/-- Read a slot. -/
def ldSlot (b : Bf) (r : Fin 8) (j : Fin 2) (k : Vec F S1x1x512x256 .bf16 → P F) : P F :=
  .op (.load (bfM b) (slotR r j).toLoadRect (View.loadsAt_vmem h_S1x1x512x256)) k

/-- Write a slot. -/
def stSlot (b : Bf) (r : Fin 8) (j : Fin 2) (v : FVec F S1x1x512x256 .bf16) (k : P F) : P F :=
  .op (.store (bfM b) (slotR r j) v Finset.univ
    (View.stores_vmem h_S1x1x512x256 ((bfM_whole b).storeExact_slice rfl _ (slot_packed r j)) (fun _ => rfl)) (.inl rfl)) fun _ => k

/-- Read a tile of the result. -/
def ldOut (ρ : Rect S4096x2048) (hs : 0 < ρ.shape.numel) (k : Vec F ρ.shape .f32 → P F) : P F :=
  .op (.load oM ρ.toLoadRect (View.loadsAt_vmem hs)) k

/-- Write a tile of the result. -/
def stOut (ρ : Rect S4096x2048) (hs : 0 < ρ.shape.numel) (v : FVec F ρ.shape .f32) (k : P F) : P F :=
  .op (.store oM ρ v Finset.univ (View.stores_vmem_bits_univ hs rfl) (.inl rfl)) fun _ => k

/-- Where message `t` of phase `p` is sent from. -/
def srcB (p : Fin 2) (t : ℕ) : Bf := if p.val = 0 then .st else if t = 0 then .st else .ag
def srcJ (p : Fin 2) (t : ℕ) : Fin 2 := if p.val = 0 then par t else if t = 0 then 0 else par (t + 1)
/-- Where it lands. -/
def dstB (p : Fin 2) : Bf := if p.val = 0 then .rs else .ag

/-- Start message `t` of phase `p` on ring `r`. -/
def send (d : Dev nD) (p : Fin 2) (r : Fin 8) (t : ℕ) (k : P F) : P F :=
  .op (.enqueueDma (slotM (srcB p t) r (srcJ p t))
    (.remote (Dev.tc (tgtD r d)) (slotM (dstB p) r (par t)) (.dma (sndS p r (par t)).sem)) (.dma (rcvS p r (par t)).sem)
    (slotM_exact _ _ _) (slotM_exact _ _ _) ⟨⟨rfl, Or.inl rfl⟩, trivial⟩) fun _ => k

/-- Wait for the own message `t` to have left, then for the neighbour's to have come. -/
def recv (p : Fin 2) (r : Fin 8) (t : ℕ) (k : P F) : P F :=
  .op (.waitDma2 (sndS p r (par t)).sem (slotM (dstB p) r (par t)) (slotM (srcB p t) r (srcJ p t)) (slotM_exact _ _ _) (slotM_exact _ _ _)) fun _ =>
  .op (.waitDma2 (rcvS p r (par t)).sem (slotM (srcB p t) r (srcJ p t)) (slotM (dstB p) r (par t)) (slotM_exact _ _ _) (slotM_exact _ _ _)) fun _ => k

/-- Tell the writer that a slot is free again. -/
def free (d : Dev nD) (p : Fin 2) (r : Fin 8) (k : P F) : P F :=
  .op (.semSignal (wrtD r d, .tc) (crdS p r).sem (1#32).toInt) fun _ => k

/-- Wait for the reader to say so. -/
def take (p : Fin 2) (r : Fin 8) (k : P F) : P F :=
  .op (.semWait (crdS p r).sem (1#32).toInt) fun _ => k

/-- Add the received block to the partial sum, stage the sum, go on with it. -/
def acc (d : Dev nD) (r : Fin 8) (s : Fin 7) (j : Fin 2) (k : FVec F S512x256 .f32 → P F) : P F :=
  ldOut (tileR 0 r s d) h_S512x256 fun o => ldSlot .rs r (par s.val) fun v => ldSlot .st r j fun _ =>
    stSlot .st r j (stgP (accP o v)) (k (accP o v))

/-- Enter the received block into the result. -/
def put (d : Dev nD) (r : Fin 8) (s : Fin 7) (k : P F) : P F :=
  ldSlot .ag r (par s.val) fun v => ldOut (tileR 1 r s d) h_S512x256 fun _ => stOut (tileR 1 r s d) h_S512x256 (outP v) k

def ev (q : Fin 4) : Fin 8 := ⟨2 * q.val, by omega⟩
def od (q : Fin 4) : Fin 8 := ⟨2 * q.val + 1, by omega⟩

/-- Step `s < 6` of adding up, on one pair of rings. -/
def addPair (d : Dev nD) (s : Fin 6) (q : Fin 4) (k : P F) : P F :=
  recv 0 (ev q) s.val <| recv 0 (od q) s.val <|
  acc d (ev q) s.castSucc (par (s.val + 1)) fun _ => (if s.val < 5 then free d 0 (ev q) else id) <|
  acc d (od q) s.castSucc (par (s.val + 1)) fun _ => (if s.val < 5 then free d 0 (od q) else id) <|
  (if 0 < s.val then take 0 (ev q) else id) <| send d 0 (ev q) (s.val + 1) <|
  (if 0 < s.val then take 0 (od q) else id) <| send d 0 (od q) (s.val + 1) k

/-- The last step of adding up, on one pair of rings: the sums are whole and start their way round. -/
def sumPair (d : Dev nD) (q : Fin 4) (k : P F) : P F :=
  recv 0 (ev q) 6 <| recv 0 (od q) 6 <|
  acc d (ev q) 6 0 fun a => acc d (od q) 6 0 fun b =>
  send d 1 (ev q) 0 <| send d 1 (od q) 0 <|
  ldOut (tileR 0 (ev q) 6 d) h_S512x256 fun _ => stOut (tileR 0 (ev q) 6 d) h_S512x256 a <|
  ldOut (tileR 0 (od q) 6 d) h_S512x256 fun _ => stOut (tileR 0 (od q) 6 d) h_S512x256 b k

/-- Step `s` of handing round, on one pair of rings. -/
def passPair (d : Dev nD) (s : Fin 7) (q : Fin 4) (k : P F) : P F :=
  recv 1 (ev q) s.val <| recv 1 (od q) s.val <|
  (if 0 < s.val ∧ s.val < 6 then fun k => free d 1 (ev q) (free d 1 (od q) k) else id) <|
  (if s.val < 6 then fun k => (if 0 < s.val then take 1 (ev q) else id) <| send d 1 (ev q) (s.val + 1) <|
    (if 0 < s.val then take 1 (od q) else id) <| send d 1 (od q) (s.val + 1) k else id) <|
  put d (ev q) s <| put d (od q) s k

/-- The partial product of one block of rows. -/
def mulP (x : Vec F S512x512 .bf16) (w : Vec F S512x2048 .bf16) : FVec F S512x2048 .f32 :=
  matmul dot_S512x512_S512x2048_S512x2048_1_0_0_1_n_n none (shapeCast S512x512 x shapeCasts_S512x512_S512x512 : FVec F S512x512 .bf16) w (constant S512x2048 .f32 0x00000000#32)

abbrev wR : Rect S512x2048 := Rect.unit (s := S512x2048) ![0, 0] S512x2048.size inb_S512x2048_S512x2048_0_0

/-- The partial product of one block of rows, computed into the result. -/
def mul (ρx : Rect S4096x512) (hx : ρx.shape = S512x512) (ρo : Rect S4096x2048) (ho : ρo.shape = S512x2048) (k : P F) : P F :=
  .op (.load xM ρx.toLoadRect (View.loadsAt_vmem (by rw [hx]; decide))) fun x =>
  .op (.load cM wR.toLoadRect (View.loadsAt_vmem h_S512x2048)) fun w =>
  .op (.load oM ρo.toLoadRect (View.loadsAt_vmem (by rw [ho]; decide))) fun _ =>
  .op (.store oM ρo (ho ▸ mulP (hx ▸ x) w) Finset.univ (View.stores_vmem_bits_univ (by rw [ho]; decide) rfl) (.inl rfl)) fun _ => k

/-- Stage the device's own block of rows, in a ring's columns. -/
def stage (d : Dev nD) (r : Fin 8) (k : P F) : P F :=
  ldOut (ownR r d) h_S512x256 fun o => ldSlot .st r 0 fun _ =>
    stSlot .st r 0 (stgP (shapeCast S512x256 o shapeCasts_S512x256_S512x256)) k

/-- The whole body. -/
def prog : P F :=
  .op .deviceId fun d =>
  .op (.semSignal (⟨k0_dev1 d, k0_dev1_lt d⟩, .tc) barS.sem (1#32).toInt) fun _ =>
  .op (.semSignal (⟨k0_dev2 d, k0_dev2_lt d⟩, .tc) barS.sem (1#32).toInt) fun _ =>
  .op (.load wM wR.toLoadRect (View.loadsAt_vmem h_S512x2048)) fun w =>
  .op (.load cM wR.toLoadRect (View.loadsAt_vmem h_S512x2048)) fun _ =>
  .op (.store cM wR (k0_pay3 w) Finset.univ (View.stores_vmem h_S512x2048 ((Memref.isWhole_whole _).storeExact_slice rfl _ packedbf16_S512x2048_S512x2048_0_0) (fun _ => rfl)) (.inl rfl)) fun _ =>
  mul (Rect.unit (s := S4096x512) (k0_off1 d) S512x512.size (k0_off1_inb d)) rfl (Rect.unit (s := S4096x2048) (k0_off2 d) S512x2048.size (k0_off2_inb d)) rfl <|
  (List.foldr (stage d) · [0, 1, 2, 3, 4, 5, 6, 7]) <|
  .op (.semWait barS.sem (2#32).toInt) fun _ =>
  (List.foldr (fun r => send d 0 r 0) · [0, 1, 2, 3, 4, 5, 6, 7]) <|
  (List.foldr (fun (i : Fin 7) =>
    mul (Rect.unit (s := S4096x512) (k0_off11 d (BitVec.ofNat 32 (1 + i.val))) S512x512.size (k0_off11_inb d i)) rfl
      (Rect.unit (s := S4096x2048) (k0_off12 d (BitVec.ofNat 32 (1 + i.val))) S512x2048.size (k0_off12_inb d i)) rfl) · [0, 6, 1, 5, 2, 4, 3]) <|
  (List.foldr (fun s k => List.foldr (addPair d s) k [0, 1, 2, 3]) · [0, 1, 2, 3, 4, 5]) <|
  (List.foldr (sumPair d) · [0, 1, 2, 3]) <|
  (List.foldr (fun s k => List.foldr (passPair d s) k [0, 1, 2, 3]) · [0, 1, 2, 3, 4, 5, 6]) <|
  .ret ⟨⟩

set_option maxRecDepth 65536 in
set_option maxHeartbeats 0 in
theorem body_eq : bodyAt0 (F := F) t0_0 = prog := by
  unfold bodyAt0
  rw [cc0_body_eq_skeleton]
  rfl

end Cert.KernelIdeal.Hand

end
end
-- ==== Proof.KernelIdeal.Values.lean ====
/-
# The contents of the messages and of the result

For any blocks `X` and `W` the devices hold: the partial product of a block of rows, the message a ring carries at
each step of each phase, and the result as each ring has written it so far. What an access to a tile or to a slot
reads and leaves, as statements about these.
-/
module

public import proofs.«01_k».proof.Proof.KernelIdeal.Steps
public import Idealize.ShloMosaic.Lib.ViewIndex

@[expose] public section

noncomputable section

namespace Cert.KernelIdeal.Hand

open Cert.KernelIdeal Cert.KernelIdeal.Gen
open Idealize.ShloMosaic Idealize.SL.Sem

variable {F : FTy → Type} [FloatOps F]

/-! ## Values -/

section Values
variable (X : Dev nD → Vec F S4096x512 .bf16) (W : Dev nD → Vec F S512x2048 .bf16)

/-- Rows `512 k …` of a device's block. -/
def rowsX (c : Dev nD) (k : ℕ) : Vec F S512x512 .bf16 :=
  fun i => X c (Shape.pair (d := ![4096, 512]) ⟨(512 * k + (i 0).val) % 4096, Nat.mod_lt _ (by decide)⟩ (i 1))

/-- The partial product of a block of rows. -/
def mulT (c : Dev nD) (k : ℕ) : FVec F S512x2048 .f32 := mulP (rowsX X c k) (k0_pay3 (W c))

theorem col_lt (r : Fin 8) (x : Fin 256) : colN r + x.val < 2048 := by have := r.isLt; have := x.isLt; unfold colN; omega

/-- Its tile in a ring's columns. -/
def pT (c : Dev nD) (r : Fin 8) (k : ℕ) : FVec F S512x256 .f32 :=
  fun i => mulT X W c k (Shape.pair (d := ![512, 2048]) (i 0) ⟨colN r + (i 1).val, col_lt r (i 1)⟩)

/-- Message `t` of the first phase, as device `c` sends it. -/
def M0 (r : Fin 8) : ℕ → Dev nD → FVec F S1x1x512x256 .bf16
  | 0, c => stgP (shapeCast S512x256 (pT X W c r c.val) shapeCasts_S512x256_S512x256)
  | t + 1, c => stgP (accP (pT X W c r (chunkN 0 r t c.val)) (M0 r t (wrtD r c)))

/-- Message `t` of the second phase. -/
def M1 (r : Fin 8) : ℕ → Dev nD → FVec F S1x1x512x256 .bf16
  | 0, c => M0 X W r 7 c
  | t + 1, c => M1 r t (wrtD r c)

/-- Message `t` of phase `p` on ring `r`, as device `c` sends it. -/
def MV (p : Fin 2) (r : Fin 8) (t : ℕ) (c : Dev nD) : FVec F S1x1x512x256 .bf16 := if p.val = 0 then M0 X W r t c else M1 X W r t c

/-- The whole sum of the block of rows a device finishes. -/
def sumT (c : Dev nD) (r : Fin 8) : FVec F S512x256 .f32 := accP (pT X W c r (chunkN 0 r 6 c.val)) (M0 X W r 6 (wrtD r c))

/-- The tiles of a ring's columns after `n` writes of the ring. -/
def gR (c : Dev nD) (r : Fin 8) : ℕ → ℕ → FVec F S512x256 .f32
  | 0 => pT X W c r
  | 1 => Function.update (pT X W c r) (chunkN 0 r 6 c.val) (sumT X W c r)
  | s + 2 => Function.update (gR c r (s + 1)) (chunkN 1 r s c.val) (outP (M1 X W r s (wrtD r c)))

/-- The ring whose columns a column lies in. -/
def ringOf (y : ℕ) : Fin 8 := ⟨(2 * (y % 1024 / 256) + y / 1024) % 8, Nat.mod_lt _ (by decide)⟩

/-- The result after each ring `r` has written `nw r` tiles. -/
def outF (c : Dev nD) (nw : Fin 8 → ℕ) : Vec F S4096x2048 .f32 := fun i =>
  gR X W c (ringOf (i 1).val) (nw (ringOf (i 1).val)) ((i 0).val / 512)
    (Shape.pair (d := ![512, 256]) ⟨(i 0).val % 512, Nat.mod_lt _ (by decide)⟩ ⟨(i 1).val % 256, Nat.mod_lt _ (by decide)⟩)

theorem MV_zero_succ (r : Fin 8) (s : ℕ) (c : Dev nD) :
    MV X W 0 r (s + 1) c = stgP (accP (pT X W c r (chunkN 0 r s c.val)) (MV X W 0 r s (wrtD r c))) := rfl

theorem MV_one_zero (r : Fin 8) (c : Dev nD) :
    MV X W 1 r 0 c = stgP (accP (pT X W c r (chunkN 0 r 6 c.val)) (MV X W 0 r 6 (wrtD r c))) := rfl

theorem MV_one_succ (r : Fin 8) (s : ℕ) (c : Dev nD) : MV X W 1 r (s + 1) c = MV X W 1 r s (wrtD r c) := rfl

theorem gR_one (c : Dev nD) (r : Fin 8) :
    gR X W c r 1 = Function.update (gR X W c r 0) (chunkN 0 r 6 c.val) (accP (pT X W c r (chunkN 0 r 6 c.val)) (MV X W 0 r 6 (wrtD r c))) := rfl

theorem gR_succ (c : Dev nD) (r : Fin 8) (s : ℕ) :
    gR X W c r (s + 2) = Function.update (gR X W c r (s + 1)) (chunkN 1 r s c.val) (outP (MV X W 1 r s (wrtD r c))) := rfl

end Values

/-! ## Tiles of the result -/

section Tiles
variable (X : Dev nD → Vec F S4096x512 .bf16) (W : Dev nD → Vec F S512x2048 .bf16) (c : Dev nD)

theorem col_iff (r y : ℕ) (hr : r < 8) (hy : y < 2048) :
    1024 * (r % 2) + 256 * (r / 2) ≤ y ∧ y < 1024 * (r % 2) + 256 * (r / 2) + 256 ↔ (2 * (y % 1024 / 256) + y / 1024) % 8 = r := by
  obtain rfl | rfl | rfl | rfl | rfl | rfl | rfl | rfl : r = 0 ∨ r = 1 ∨ r = 2 ∨ r = 3 ∨ r = 4 ∨ r = 5 ∨ r = 6 ∨ r = 7 := by omega
  all_goals omega

theorem ringOf_col (r : Fin 8) (x : ℕ) (hx : x < 256) : ringOf (colN r + x) = r :=
  Fin.ext ((col_iff r.val (colN r + x) r.isLt (by have := r.isLt; simp only [colN]; omega)).mp ⟨Nat.le_add_right _ _, by simp only [colN]; omega⟩)

theorem col_ring (y : ℕ) (hy : y < 2048) : colN (ringOf y) + y % 256 = y := by
  have h := (col_iff _ y (ringOf y).isLt hy).mpr rfl
  simp only [colN] at *; omega

theorem not_mem_out {ρ : Rect S4096x2048} {i : S4096x2048.Idx} (h : i ∉ ρ.set) : i ∉ (oM.access ρ).setOn Finset.univ := by
  rw [View.setOn_univ]
  exact (congrArg (i ∉ ·) (View.set_slice_whole cc0_stg2_0 ρ)).mpr h

theorem exists_emb {s : Shape} {ρ : Rect s} {i : s.Idx} (h : i ∈ ρ.set) : ∃ j, ρ.emb j = i := by
  rw [← Rect.map_emb_univ] at h
  obtain ⟨j, -, e⟩ := Finset.mem_map.mp h
  exact ⟨j, e⟩

theorem write_out_emb (ρ : Rect S4096x2048) (f : Vec F S4096x2048 .f32) (w : Vec F ρ.shape .f32) (j : ρ.shape.Idx) :
    (oM.access ρ).write (Elt F) f w Finset.univ (ρ.emb j) = w j :=
  View.write_emb_of_mem (v := oM.access ρ) f w (Finset.mem_univ j)

theorem outF_at (nw : Fin 8 → ℕ) (i : S4096x2048.Idx) (r : Fin 8) (k : ℕ) (j : S512x256.Idx) (hr : ringOf (i 1).val = r)
    (hk : (i 0).val / 512 = k) (h0 : (i 0).val % 512 = (j 0).val) (h1 : (i 1).val % 256 = (j 1).val) :
    outF X W c nw i = gR X W c r (nw r) k j := by
  subst hr hk
  refine congrArg (gR X W c _ _ _) ?_
  refine Eq.trans ?_ (Shape.pair_eta (d := ![512, 256]) j)
  exact congrArg₂ (Shape.pair (d := ![512, 256])) (Fin.ext h0) (Fin.ext h1)

theorem chunkN_lt (p : Fin 2) (r : Fin 8) (s d : ℕ) : chunkN p r s d < 8 := by unfold chunkN; split <;> omega

section
variable {off : Fin 2 → ℕ} {r : Fin 8} {k : ℕ} (ho : off = ![512 * k, colN r]) (inb : ∀ a, off a + S512x256.size a ≤ S4096x2048.size a)
include ho

theorem tile_emb (j : S512x256.Idx) :
    (((Rect.unit (s := S4096x2048) off S512x256.size inb).emb j) 0).val = 512 * k + (j 0).val ∧
    (((Rect.unit (s := S4096x2048) off S512x256.size inb).emb j) 1).val = colN r + (j 1).val := by
  subst ho
  constructor <;> (rw [Rect.emb_apply]; simp [Rect.off_unit, Rect.stride_unit])

theorem outF_tile (nw : Fin 8 → ℕ) (j : S512x256.Idx) :
    outF X W c nw ((Rect.unit (s := S4096x2048) off S512x256.size inb).emb j) = gR X W c r (nw r) k j := by
  obtain ⟨h0, h1⟩ := tile_emb ho inb j
  have j0 : (j 0).val < 512 := (j 0).isLt
  have j1 : (j 1).val < 256 := (j 1).isLt
  refine outF_at X W c nw _ r k j ?_ ?_ ?_ ?_
  · rw [h1, ringOf_col r _ j1]
  · rw [h0]; omega
  · rw [h0]; omega
  · rw [h1]; simp only [colN]; omega

theorem read_tile (nw : Fin 8 → ℕ) :
    (oM.access (Rect.unit (s := S4096x2048) off S512x256.size inb)).read (Elt F) (outF X W c nw) = gR X W c r (nw r) k :=
  funext fun j => outF_tile X W c ho inb nw j

theorem mem_tile (i : S4096x2048.Idx) :
    i ∈ (Rect.unit (s := S4096x2048) off S512x256.size inb).set ↔ (i 0).val / 512 = k ∧ ringOf (i 1).val = r := by
  rw [Rect.mem_set_unit]
  subst ho
  have hc := col_iff r.val (i 1).val r.isLt (i 1).isLt
  constructor
  · intro h
    have h0 : 512 * k ≤ (i 0).val ∧ (i 0).val < 512 * k + 512 := h 0
    have h1 : colN r ≤ (i 1).val ∧ (i 1).val < colN r + 256 := h 1
    exact ⟨by omega, Fin.ext (hc.mp h1)⟩
  · rintro ⟨h0, h1⟩ a
    match a with
    | ⟨0, _⟩ => show 512 * k ≤ (i 0).val ∧ (i 0).val < 512 * k + 512; omega
    | ⟨1, _⟩ => exact hc.mpr (congrArg Fin.val h1)

theorem write_tile (nw : Fin 8 → ℕ) (w : FVec F S512x256 .f32)
    (hw : gR X W c r (nw r + 1) = Function.update (gR X W c r (nw r)) k w) :
    (oM.access (Rect.unit (s := S4096x2048) off S512x256.size inb)).write (Elt F) (outF X W c nw) w Finset.univ
      = outF X W c (Function.update nw r (nw r + 1)) := by
  funext i
  by_cases hi : i ∈ (Rect.unit (s := S4096x2048) off S512x256.size inb).set
  · obtain ⟨j, rfl⟩ := exists_emb hi
    refine (write_out_emb _ _ _ j).trans ?_
    refine Eq.trans ?_ (outF_tile X W c ho inb _ j).symm
    rw [Function.update_self, hw, Function.update_self]
  · refine (View.write_of_not_mem _ _ _ (not_mem_out hi)).trans ?_
    rw [mem_tile ho inb] at hi
    unfold outF
    by_cases h : ringOf (i 1).val = r
    · have hk : (i 0).val / 512 ≠ k := fun e => hi ⟨e, h⟩
      rw [h, Function.update_self, hw, Function.update_of_ne hk]
    · rw [Function.update_of_ne h]

end

/-- The partial products of some blocks of rows are in the result. -/
def Filled (ks : Finset ℕ) (f : Vec F S4096x2048 .f32) : Prop := ∀ i, (i 0).val / 512 ∈ ks → f i = outF X W c (fun _ => 0) i

theorem read_filled {off : Fin 2 → ℕ} {r : Fin 8} {k : ℕ} (ho : off = ![512 * k, colN r])
    (inb : ∀ a, off a + S512x256.size a ≤ S4096x2048.size a) {ks : Finset ℕ} {f : Vec F S4096x2048 .f32}
    (hf : Filled X W c ks f) (hk : k ∈ ks) :
    (oM.access (Rect.unit (s := S4096x2048) off S512x256.size inb)).read (Elt F) f = pT X W c r k := by
  funext j
  have h := hf ((Rect.unit (s := S4096x2048) off S512x256.size inb).emb j)
    (by
      have h0 := (tile_emb ho inb j).1
      have j0 : (j 0).val < 512 := (j 0).isLt
      rw [h0, show (512 * k + (j 0).val) / 512 = k by omega]; exact hk)
  exact h.trans (outF_tile X W c ho inb _ j)

theorem filled_all {f : Vec F S4096x2048 .f32} (hf : Filled X W c (Finset.range 8) f) : f = outF X W c (fun _ => 0) :=
  funext fun i => hf i (Finset.mem_range.mpr (by have : (i 0).val < 4096 := (i 0).isLt; omega))

section
variable {off : Fin 2 → ℕ} {k : ℕ} (hk : k < 8) (ho : off = ![512 * k, 0])
include ho

include hk in
theorem read_rows (inb : ∀ a, off a + S512x512.size a ≤ S4096x512.size a) :
    (xM.access (Rect.unit (s := S4096x512) off S512x512.size inb)).read (Elt F) (X c) = rowsX X c k := by
  subst ho
  funext j
  have j0 : (j 0).val < 512 := (j 0).isLt
  refine congrArg (X c) ?_
  refine (Shape.pair_eta (d := ![4096, 512]) ((Rect.unit (s := S4096x512) ![512 * k, 0] S512x512.size inb).emb j)).symm.trans ?_
  refine congrArg₂ (Shape.pair (d := ![4096, 512])) (Fin.ext ?_) (Fin.ext ?_)
  · rw [Rect.emb_apply]; simp [Rect.off_unit, Rect.stride_unit]; omega
  · rw [Rect.emb_apply]; simp [Rect.off_unit, Rect.stride_unit]

theorem mem_rows (inb : ∀ a, off a + S512x2048.size a ≤ S4096x2048.size a) (i : S4096x2048.Idx) :
    i ∈ (Rect.unit (s := S4096x2048) off S512x2048.size inb).set ↔ (i 0).val / 512 = k := by
  rw [Rect.mem_set_unit]
  subst ho
  have i1 : (i 1).val < 2048 := (i 1).isLt
  constructor
  · intro h
    have h0 : 512 * k ≤ (i 0).val ∧ (i 0).val < 512 * k + 512 := h 0
    omega
  · intro h a
    match a with
    | ⟨0, _⟩ => show 512 * k ≤ (i 0).val ∧ (i 0).val < 512 * k + 512; omega
    | ⟨1, _⟩ => show 0 ≤ (i 1).val ∧ (i 1).val < 0 + 2048; omega

theorem write_rows (inb : ∀ a, off a + S512x2048.size a ≤ S4096x2048.size a) {ks : Finset ℕ} {f : Vec F S4096x2048 .f32}
    (hf : Filled X W c ks f) :
    Filled X W c (insert k ks)
      ((oM.access (Rect.unit (s := S4096x2048) off S512x2048.size inb)).write (Elt F) f (mulT X W c k) Finset.univ) := by
  intro i hi
  by_cases h : i ∈ (Rect.unit (s := S4096x2048) off S512x2048.size inb).set
  · have hik := (mem_rows ho inb i).mp h
    obtain ⟨j, rfl⟩ := exists_emb h
    refine (write_out_emb _ _ _ j).trans ?_
    subst ho
    have j0 : (j 0).val < 512 := (j 0).isLt
    have j1 : (j 1).val < 2048 := (j 1).isLt
    have e0 : (((Rect.unit (s := S4096x2048) ![512 * k, 0] S512x2048.size inb).emb j) 0).val = 512 * k + (j 0).val := by
      rw [Rect.emb_apply]; simp [Rect.off_unit, Rect.stride_unit]
    have e1 : (((Rect.unit (s := S4096x2048) ![512 * k, 0] S512x2048.size inb).emb j) 1).val = (j 1).val := by
      rw [Rect.emb_apply]; simp [Rect.off_unit, Rect.stride_unit]
    refine Eq.trans ?_ (outF_at X W c (fun _ => 0) _ _ k
      (Shape.pair (d := ![512, 256]) ⟨(j 0).val, j0⟩ ⟨(j 1).val % 256, Nat.mod_lt _ (by decide)⟩) rfl hik ?_ ?_).symm
    · refine congrArg (mulT X W c k) ?_
      refine (Shape.pair_eta (d := ![512, 2048]) j).symm.trans ?_
      refine congrArg₂ (Shape.pair (d := ![512, 2048])) rfl (Fin.ext ?_)
      rw [e1]
      exact (col_ring (j 1).val j1).symm
    · rw [e0]; show _ = (j 0).val; omega
    · rw [e1]; rfl
  · refine (View.write_of_not_mem _ _ _ (not_mem_out h)).trans ?_
    exact hf i ((Finset.mem_insert.mp hi).resolve_left fun e => h ((mem_rows ho inb i).mpr e))

end
end Tiles

/-! ## Slots -/

/-- A slot as the accesses see it. -/
abbrev slotV (b : Bf) (r : Fin 8) (j : Fin 2) : View sig .tc .vmem (slotR r j).shape .bf16 := (bfM b).access (slotR r j)

theorem slotM_set (b : Bf) (r : Fin 8) (j : Fin 2) : (slotM b r j).view.set = (slotV b r j).set := View.set_reshape _ _

theorem slot_nonempty (b : Bf) (r : Fin 8) (j : Fin 2) : (slotV b r j).set.Nonempty :=
  View.set_nonempty h_S1x1x512x256

/-- A transfer leaves in the one slot what the other reads. -/
theorem slot_move (b b' : Bf) (r : Fin 8) (j j' : Fin 2) (fs : (slotV b r j).ty.Contents (Elt F)) (fd : (slotV b' r j').ty.Contents (Elt F)) :
    (slotV b' r j').read (Elt F) ((slotM b' r j').view.write (Elt F) fd ((slotM b r j).view.read (Elt F) fs) Finset.univ)
      = (slotV b r j).read (Elt F) fs := by
  funext x
  obtain ⟨y, rfl⟩ := (Shape.reshapeEquiv (s := S1x1x512x256) (s' := S512x256) squeezes_S1x1x512x256_S512x256.numel_eq).surjective x
  exact View.read_write_reshape (slotV b' r j') _ fd _ y

end Cert.KernelIdeal.Hand

end
end
-- ==== Proof.KernelIdeal.Proto.lean ====
/-
# The protocol of the rings

Every cell's rounds, duties and what they hand over; what each device owes and in which order; and the pieces of
ghost state a ring holds after so many messages sent, awaited, slots freed and credits taken.
-/
module

public import proofs.«01_k».proof.Proof.KernelIdeal.Values
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- A slot's message: device, phase, ring, message. -/
abbrev Key : Type := Dev nD × Fin 2 × Fin 8 × ℕ
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

abbrev 𝒱₀ : Variants := Variants.none

/-! ## The cells -/

/-- The kinds of cells: the barrier, a message's departure and arrival, a ring's credit. -/
inductive Ck
  | bar
  | snd (p : Fin 2) (r : Fin 8) (j : Fin 2)
  | rcv (p : Fin 2) (r : Fin 8) (j : Fin 2)
  | crd (p : Fin 2) (r : Fin 8)
  deriving DecidableEq

def Ck.equiv : Unit ⊕ ((Fin 2 × Fin 8 × Fin 2) ⊕ ((Fin 2 × Fin 8 × Fin 2) ⊕ (Fin 2 × Fin 8))) ≃ Ck where
  toFun | .inl _ => .bar | .inr (.inl (p, r, j)) => .snd p r j | .inr (.inr (.inl (p, r, j))) => .rcv p r j | .inr (.inr (.inr (p, r))) => .crd p r
  invFun | .bar => .inl () | .snd p r j => .inr (.inl (p, r, j)) | .rcv p r j => .inr (.inr (.inl (p, r, j))) | .crd p r => .inr (.inr (.inr (p, r)))
  left_inv := by rintro (_ | _ | _ | _) <;> rfl
  right_inv := by rintro (_ | _ | _ | _) <;> rfl

instance : Fintype Ck := Fintype.ofEquiv _ Ck.equiv

def Ck.loc : Ck → SemLoc sig
  | .bar => .reg barS.sem
  | .snd p r j => .dma (sndS p r j).sem
  | .rcv p r j => .dma (rcvS p r j).sem
  | .crd p r => .reg (crdS p r).sem

/-- The kind of a semaphore, by its number. -/
def kindOf : SemLoc sig → Option Ck
  | .reg s => if s.val < 16 then some (.crd ⟨s.val / 8 % 2, Nat.mod_lt _ (by decide)⟩ ⟨s.val % 8, Nat.mod_lt _ (by decide)⟩) else some .bar
  | .dma s =>
    if s.val < 3 then none
    else if s.val < 35 then some (.snd ⟨(s.val - 3) / 16 % 2, Nat.mod_lt _ (by decide)⟩ ⟨(s.val - 3) / 2 % 8, Nat.mod_lt _ (by decide)⟩ (par (s.val - 3)))
    else some (.rcv ⟨(s.val - 35) / 16 % 2, Nat.mod_lt _ (by decide)⟩ ⟨(s.val - 35) / 2 % 8, Nat.mod_lt _ (by decide)⟩ (par (s.val - 35)))

theorem kindOf_loc (k : Ck) : kindOf k.loc = some k := by
  cases k with
  | bar => decide +kernel
  | snd p r j => revert p r j; decide +kernel
  | rcv p r j => revert p r j; decide +kernel
  | crd p r => revert p r; decide +kernel

theorem loc_injective : Function.Injective Ck.loc := fun a b h => by
  have := congrArg kindOf h; rw [kindOf_loc, kindOf_loc] at this; exact Option.some.inj this

abbrev cell (c : Dev nD) (k : Ck) : GSem nD τ sig := ((c : Thread nD τ), k.loc)

abbrev N : ℕ := (slotM .st 0 0).view.dmaCredit
theorem N_pos : 0 < N := View.dmaCredit_pos _ (by decide)

theorem amount_slot (b : Bf) (r : Fin 8) (j : Fin 2) (s : DmaSem sig) : (slotM b r j).view.amount (.dma s) = N := by cases b <;> rfl

theorem wrt_tgt (r : Fin 8) (c : Dev nD) : wrtD r (tgtD r c) = c := by revert r c; decide +kernel
theorem tgt_wrt (r : Fin 8) (c : Dev nD) : tgtD r (wrtD r c) = c := by revert r c; decide +kernel

/-! ## Slots -/

/-- A slot holding a block, at a share. -/
def slotIs (c : Dev nD) (b : Bf) (r : Fin 8) (j : Fin 2) (q : PosShare TreeShare) (x : FVec F S1x1x512x256 .bf16) : sProp 𝕄 :=
  iprop(∃ f : Buf (Elt F) ((slotV b r j).loc (c : Thread nD τ)), ⌜(slotV b r j).read (Elt F) f = x⌝
    ∗ ((slotV b r j).loc (c : Thread nD τ) ↦[(slotV b r j).set]{q} f))

/-- A slot at any contents. -/
def anySlot (c : Dev nD) (b : Bf) (r : Fin 8) (j : Fin 2) : sProp 𝕄 := slot ((slotV b r j).loc (c : Thread nD τ)) (slotV b r j).set

omit [FloatOps F] in
instance slotIs_storable (c : Dev nD) (b : Bf) (r : Fin 8) (j : Fin 2) (q : PosShare TreeShare) (x : FVec F S1x1x512x256 .bf16) :
    Storable (upEmb : UEmb _ 𝕄) (slotIs c b r j q x) := by unfold slotIs; infer_instance
omit [FloatOps F] in
instance anySlot_storable (c : Dev nD) (b : Bf) (r : Fin 8) (j : Fin 2) : Storable (upEmb : UEmb _ 𝕄) (anySlot (F := F) c b r j) := by
  unfold anySlot; infer_instance

omit [FloatOps F] in
theorem slotIs_any (c : Dev nD) (b : Bf) (r : Fin 8) (j : Fin 2) (x : FVec F S1x1x512x256 .bf16) :
    slotIs c b r j fullShare x ⊢ (anySlot c b r j : sProp 𝕄) := by
  unfold slotIs anySlot slot
  iintro ⟨%f, -, H⟩; iexists f; iexact H

/-- The share of its source a message takes along. -/
def shr (p : Fin 2) (t : ℕ) : PosShare TreeShare := if p.val = 0 ∨ t = 0 then fullShare else fullShare.left

/-! ## The schedule -/

/-- What a reader says when it has freed the slots of messages `0, …, d`. -/
def heard (a : Dev nD) (p : Fin 2) (r : Fin 8) (d : ℕ) : sProp 𝕄 :=
  bigSep (Finset.range (d + 1)) fun i => iprop(released ES (a, p, r, i) 1 ∗ reached ER (cell a (.rcv p r (par i))) (i / 2 + 1))

instance heard_persistent (a : Dev nD) (p : Fin 2) (r : Fin 8) (d : ℕ) : BI.Persistent (heard (F := F) a p r d) := by unfold heard; infer_instance

/-- The slots a neighbour offers at the start, for one ring. -/
def offer (a : Dev nD) (r : Fin 8) : sProp 𝕄 :=
  iprop(anySlot a .rs r 0 ∗ anySlot a .rs r 1 ∗ anySlot a .ag r 0 ∗ anySlot a .ag r 1)

/-- The four rings of one direction. -/
def ringB (b : ℕ) (q : Fin 4) : Fin 8 := if b = 0 then ev q else od q

section Sched
variable (X : Dev nD → Vec F S4096x512 .bf16) (W : Dev nD → Vec F S512x2048 .bf16)

def payOf (c : Dev nD) : Ck → ℕ → ℕ → sProp 𝕄
  | .bar, _, b => bigSep Finset.univ fun q : Fin 4 => offer (tgtD (ringB b q) c) (ringB b q)
  | .snd p r j, R, _ => slotIs c (srcB p (2 * R + j.val)) r (srcJ p (2 * R + j.val)) (shr p (2 * R + j.val)) (MV X W p r (2 * R + j.val) c)
  | .rcv p r j, R, _ => slotIs c (dstB p) r j fullShare (MV X W p r (2 * R + j.val) (wrtD r c))
  | .crd p r, _, d => heard (tgtD r c) p r d

def dutOf : Ck → ℕ → Finset ℕ
  | .bar, R => if R = 0 then Finset.range 2 else ∅
  | .snd _ _ j, R => if R < 4 - j.val then {0} else ∅
  | .rcv _ _ j, R => if R < 4 - j.val then {0} else ∅
  | .crd _ _, R => if R = 0 then Finset.range 5 else ∅

def amtOf : Ck → ℕ
  | .bar => 1
  | .snd _ _ _ => N
  | .rcv _ _ _ => N
  | .crd _ _ => 1

theorem amtOf_pos (k : Ck) : 0 < amtOf k := by cases k <;> first | exact Nat.one_pos | exact N_pos

/-- The rings' schedule. -/
def Rd : Rounds.Schedule (GSem nD τ sig) ℕ 𝕄 where
  duties g R := if g.1.2 = .tc then (match kindOf g.2 with | some k => dutOf k R | none => ∅) else ∅
  amount g _ _ := match kindOf g.2 with | some k => amtOf k | none => 1
  payload g R d := match kindOf g.2 with | some k => payOf X W g.1.1 k R d | none => iprop(emp)
  amount_pos g _ _ _ := by
    cases kindOf g.2 with
    | none => exact Nat.one_pos
    | some k => exact amtOf_pos k

instance payOf_storable (c : Dev nD) (k : Ck) (R d : ℕ) : Storable (upEmb : UEmb _ 𝕄) (payOf X W c k R d) := by
  cases k <;> (unfold payOf; try unfold offer; try unfold heard) <;> infer_instance

instance Rd_payload_storable (g : GSem nD τ sig) (R d : ℕ) : Storable (upEmb : UEmb _ 𝕄) ((Rd X W).payload g R d) := by
  show Storable upEmb (match kindOf g.2 with | some k => payOf X W g.1.1 k R d | none => iprop(emp))
  split <;> infer_instance

theorem duties_cell (c : Dev nD) (k : Ck) (R : ℕ) : (Rd X W).duties (cell c k) R = dutOf k R := by
  refine (if_pos rfl : (if (cell c k).1.2 = .tc then (match kindOf k.loc with | some k => dutOf k R | none => ∅) else ∅) = _).trans ?_
  rw [kindOf_loc]
theorem amount_cell (c : Dev nD) (k : Ck) (R d : ℕ) : (Rd X W).amount (cell c k) R d = amtOf k := by
  show (match kindOf k.loc with | some k => amtOf k | none => 1) = _
  rw [kindOf_loc]
theorem payload_cell (c : Dev nD) (k : Ck) (R d : ℕ) : (Rd X W).payload (cell c k) R d = payOf X W c k R d := by
  show (match kindOf k.loc with | some k => payOf X W c k R d | none => iprop(emp)) = _
  rw [kindOf_loc]
theorem expect_cell (c : Dev nD) (k : Ck) (R : ℕ) : (Rd X W).expect (cell c k) R = (dutOf k R).card * amtOf k := by
  unfold Schedule.expect Schedule.amountOf
  rw [duties_cell, Finset.sum_congr rfl fun d _ => amount_cell X W c k R d, Finset.sum_const, smul_eq_mul]

end Sched

/-! ## What is owed, in order -/

/-- The place in the order of message `t` of phase `p` on ring `r`, and of the freeing of message `m`'s slot. -/
def kSend (p : Fin 2) (r : Fin 8) (t : ℕ) : ℕ := 3 + 16 * (7 * p.val + t) + 4 * (r.val / 2) + 2 + r.val % 2
def kFree (p : Fin 2) (r : Fin 8) (m : ℕ) : ℕ := 3 + 16 * (8 * p.val + m + 1) + 4 * (r.val / 2) + r.val % 2

def leftD (c : Dev nD) : Dev nD := ⟨k0_dev1 c, k0_dev1_lt c⟩
def rightD (c : Dev nD) : Dev nD := ⟨k0_dev2 c, k0_dev2_lt c⟩

/-- What device `c` owes at place `k` of the order. -/
def tal (c : Dev nD) (k : ℕ) : CellTallies nD τ sig ℕ :=
  if k = 1 then tallyAt (cell (leftD c) .bar) 1 1
  else if k = 2 then tallyAt (cell (rightD c) .bar) 1 1
  else
    let i := (k - 3) / 16
    let r : Fin 8 := ⟨(k - 3) % 16 / 4 * 2 + (k - 3) % 2, by omega⟩
    if (k - 3) % 4 / 2 = 1 then
      tallyAt (cell (tgtD r c) (.rcv ⟨i / 7 % 2, Nat.mod_lt _ (by decide)⟩ r (par (i % 7)))) k N
    else if 1 ≤ i ∧ i ≤ 5 then tallyAt (cell (wrtD r c) (.crd 0 r)) k 1
    else if 9 ≤ i ∧ i ≤ 13 then tallyAt (cell (wrtD r c) (.crd 1 r)) k 1
    else 0

/-- What device `c` still owes from place `k` on. -/
def owed (c : Dev nD) (k : ℕ) : CellTallies nD τ sig ℕ := ∑ j ∈ Finset.Ico k 227, tal c j

theorem Ico_first {n m : ℕ} (h : n < m) : Finset.Ico n m = insert n (Finset.Ico (n + 1) m) := by
  ext x; simp only [Finset.mem_insert, Finset.mem_Ico]; omega

theorem owed_succ (c : Dev nD) {k : ℕ} (hk : k < 227) : owed c k = owed c (k + 1) + tal c k := by
  unfold owed; rw [Ico_first hk, Finset.sum_insert (by simp), add_comm]

theorem owed_end (c : Dev nD) : owed c 227 = 0 := by unfold owed; rw [Finset.Ico_self, Finset.sum_empty]

theorem tal_send (c : Dev nD) (p : Fin 2) (r : Fin 8) (t : ℕ) (ht : t < 7) :
    tal c (kSend p r t) = tallyAt (cell (tgtD r c) (.rcv p r (par t))) (kSend p r t) N := by
  have hp := p.isLt; have hr := r.isLt
  unfold tal
  have e1 : (kSend p r t - 3) / 16 = 7 * p.val + t := by unfold kSend; omega
  have e2 : (⟨(kSend p r t - 3) % 16 / 4 * 2 + (kSend p r t - 3) % 2, by omega⟩ : Fin 8) = r := Fin.ext (by show (kSend p r t - 3) % 16 / 4 * 2 + (kSend p r t - 3) % 2 = r.val; unfold kSend; omega)
  have e3 : (kSend p r t - 3) % 4 / 2 = 1 := by unfold kSend; omega
  have e4 : (⟨(7 * p.val + t) / 7 % 2, Nat.mod_lt _ (by decide)⟩ : Fin 2) = p := Fin.ext (by show (7 * p.val + t) / 7 % 2 = p.val; omega)
  have e5 : (7 * p.val + t) % 7 = t := by omega
  rw [if_neg (by unfold kSend; omega), if_neg (by unfold kSend; omega)]
  simp only [e1, e2, e3, e4, e5, if_true]

theorem tal_free (c : Dev nD) (p : Fin 2) (r : Fin 8) (m : ℕ) (hm : m < 5) :
    tal c (kFree p r m) = tallyAt (cell (wrtD r c) (.crd p r)) (kFree p r m) 1 := by
  have hr := r.isLt
  unfold tal
  have e1 : (kFree p r m - 3) / 16 = 8 * p.val + m + 1 := by unfold kFree; omega
  have e2 : (⟨(kFree p r m - 3) % 16 / 4 * 2 + (kFree p r m - 3) % 2, by omega⟩ : Fin 8) = r := Fin.ext (by show (kFree p r m - 3) % 16 / 4 * 2 + (kFree p r m - 3) % 2 = r.val; unfold kFree; omega)
  have e3 : (kFree p r m - 3) % 4 / 2 = 0 := by unfold kFree; omega
  rw [if_neg (by unfold kFree; omega), if_neg (by unfold kFree; omega)]
  simp only [e1, e2, e3]
  obtain rfl | rfl : p = 0 ∨ p = 1 := (by decide : ∀ p : Fin 2, p = 0 ∨ p = 1) p
  · rw [if_neg (by omega), if_pos (by simp; omega)]
  · rw [if_neg (by omega), if_neg (by simp; omega), if_pos (by simp; omega)]

theorem tal_none (c : Dev nD) (k : ℕ) (hk : 3 ≤ k) (h0 : (k - 3) % 4 / 2 = 0) (hi : ¬ (1 ≤ (k - 3) / 16 ∧ (k - 3) / 16 ≤ 5)) (hi' : ¬ (9 ≤ (k - 3) / 16 ∧ (k - 3) / 16 ≤ 13)) :
    tal c k = 0 := by
  unfold tal
  rw [if_neg (by omega), if_neg (by omega)]
  simp only [h0, hi, hi', if_false]
  rfl

theorem owed_skip (c : Dev nD) {k : ℕ} (hk : k < 227) (h : tal c k = 0) : owed c k = owed c (k + 1) := by
  rw [owed_succ c hk, h, add_zero]

theorem tal_pos {c : Dev nD} {k : ℕ} {g : GSem nD τ sig} {u : ℕ} (h : 0 < tal c k g u) : g.1.2 = .tc ∧ (u = k ∨ (k ≤ 2 ∧ u = 1)) := by
  have hh : ∀ (d : Dev nD) (x : Ck) (ι n : ℕ), 0 < tallyAt (cell d x) ι n g u → g.1.2 = .tc ∧ u = ι := by
    intro d x ι n h
    rw [tallyAt_apply] at h
    by_cases e : g = cell d x ∧ u = ι
    · exact ⟨by rw [e.1], e.2⟩
    · rw [if_neg e] at h; exact absurd h (Nat.lt_irrefl 0)
  unfold tal at h
  split at h
  · next e => have := hh _ _ _ _ h; exact ⟨this.1, .inr ⟨by omega, this.2⟩⟩
  split at h
  · next e => have := hh _ _ _ _ h; exact ⟨this.1, .inr ⟨by omega, this.2⟩⟩
  dsimp only at h
  split at h
  · have := hh _ _ _ _ h; exact ⟨this.1, .inl this.2⟩
  split at h
  · have := hh _ _ _ _ h; exact ⟨this.1, .inl this.2⟩
  split at h
  · have := hh _ _ _ _ h; exact ⟨this.1, .inl this.2⟩
  · exact absurd h (Nat.lt_irrefl 0)

theorem owed_pos {c : Dev nD} {k : ℕ} {g : GSem nD τ sig} {u : ℕ} (h : 0 < owed c k g u) :
    g.1.2 = .tc ∧ ∃ j, k ≤ j ∧ j < 227 ∧ (u = j ∨ (j ≤ 2 ∧ u = 1)) := by
  unfold owed at h
  rw [Finset.sum_apply, Finsupp.finset_sum_apply] at h
  obtain ⟨j, hj, hp⟩ := Finset.exists_ne_zero_of_sum_ne_zero (Nat.pos_iff_ne_zero.mp h)
  have hj' := Finset.mem_Ico.mp hj
  have := tal_pos (Nat.pos_of_ne_zero hp)
  exact ⟨this.1, j, hj'.1, hj'.2, this.2⟩

def L (g : GSem nD τ sig) : Finset ℕ := if g.1.2 = .tc then Finset.range 227 else ∅
def lv (_ : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 227 := if_pos rfl

omit [FloatOps F] in
/-- A device may wait at an index that is before all it still owes. -/
theorem mayWait (c : Dev nD) (sm : SemLoc sig) (ι k : ℕ) (hι : ι < 227) (h : (ι = 0 ∧ 1 ≤ k) ∨ (3 ≤ k ∧ ι < k)) :
    (levAts L lv : sProp 𝕄) ⊢ MayWait (c : Thread nD τ) sm ι (owed c k) := by
  refine MayOwe.of_cut (L := L) (lev := lv) ι
    (fun p hp => by rw [Finset.mem_singleton.mp hp, L_tc]; exact Finset.mem_range.mpr hι)
    (fun g u hg => ?_) (fun p hp => by rw [Finset.mem_singleton.mp hp]; exact le_rfl) (fun g u hg => ?_)
  · obtain ⟨ht, j, h1, h2, h3⟩ := owed_pos hg
    unfold L; rw [if_pos ht]; exact Finset.mem_range.mpr (by omega)
  · obtain ⟨ht, j, h1, h2, h3⟩ := owed_pos hg
    show ι < u; omega

/-! ## A ring's ghost state -/

section State
variable (c : Dev nD) (p : Fin 2) (r : Fin 8)

/-- What device `c` owes from place `k` on, whatever it has waited for. -/
def Ow (k : ℕ) : sProp 𝕄 := iprop(∃ W, owes (c : Thread nD τ) (owed c k) W)

/-- The rights to send messages `n, …, 6`. -/
def SndT (n : ℕ) : sProp 𝕄 := bigSep (Finset.Ico n 7) fun t =>
  iprop(dutyTok ER (cell c (.snd p r (par t))) (t / 2) 0 ∗ dutyTok ER (cell (tgtD r c) (.rcv p r (par t))) (t / 2) 0)

/-- The two cells of a slot, both at the start of a round. -/
def PosAt (j : Fin 2) (R : ℕ) : sProp 𝕄 :=
  iprop((atPos ER (cell c (.snd p r j)) R ∅ 0 ∗ reached ER (cell c (.snd p r j)) R)
    ∗ (atPos ER (cell c (.rcv p r j)) R ∅ 0 ∗ reached ER (cell c (.rcv p r j)) R))

/-- After `w` messages awaited. -/
def Pos (w : ℕ) : sProp 𝕄 := iprop(PosAt c p r (par w) (w / 2) ∗ PosAt c p r (par (w + 1)) ((w + 1) / 2))

/-- The expected arrivals of messages `w, …, 6`. -/
def RcvC (w : ℕ) : sProp 𝕄 := bigSep (Finset.Ico w 7) fun t => cred (tallyAt (cell c (.rcv p r (par t))) (kSend p r t) N)

/-- The slots of messages `0, …, g - 1` freed. -/
def Fr (g : ℕ) : sProp 𝕄 :=
  iprop((bigSep (Finset.Ico g 5) fun m => iprop(dutyTok ER (cell (wrtD r c) (.crd p r)) 0 m ∗ readerAt ES (c, p, r, m) 0))
    ∗ bigSep (Finset.range g) fun i => iprop(released ES (c, p, r, i) 1 ∗ reached ER (cell c (.rcv p r (par i))) (i / 2 + 1)))

/-- `k` credits taken. -/
def Tk (k : ℕ) : sProp 𝕄 :=
  iprop((∃ S : Finset ℕ, ⌜S ⊆ Finset.range 5 ∧ k ≤ S.card⌝ ∗ atPos ER (cell c (.crd p r)) 0 S k ∗ bigSep S fun d => heard (tgtD r c) p r d)
    ∗ bigSep (Finset.Ico k 5) fun m => iprop(cred (tallyAt (cell c (.crd p r)) (kFree p r m) 1) ∗ writeTok ES (tgtD r c, p, r, m) 1))

/-- The slot message `t` lands in, free. -/
def Dest (t : ℕ) : sProp 𝕄 := iprop(anySlot (tgtD r c) (dstB p) r (par t) ∗ reached ER (cell (tgtD r c) (.rcv p r (par t))) (t / 2))

end State

/-- The slots' messages that are handed back. -/
def keys : Finset Key := Finset.univ ×ˢ (Finset.univ ×ˢ (Finset.univ ×ˢ Finset.range 5))

abbrev slotOf (k : Key) : sProp 𝕄 := anySlot k.1 (dstB k.2.1) k.2.2.1 (par k.2.2.2)

theorem bigSep_get {M : Type} [URA M] {I : Type} [DecidableEq I] {s : Finset I} {i : I} (hi : i ∈ s) {Φ : I → sProp M} :
    (bigSep s Φ : sProp M) ⊢ Φ i := bigSep_elim hi

section Ctx
variable (X : Dev nD → Vec F S4096x512 .bf16) (W : Dev nD → Vec F S512x2048 .bf16) (κ : Dev nD × Ck → ℕ) (ν : Key → ℕ)

/-- What every device knows throughout: the cells' and the slots' invariants, the first rounds reached, the order. -/
def PC : sProp 𝕄 :=
  iprop((bigSep Finset.univ fun x : Dev nD × Ck => cellInv ER (Rd X W) (κ x) (cell x.1 x.2))
    ∗ (bigSep keys fun k => slotInv ES (ν k) k (slotOf k))
    ∗ (bigSep Finset.univ fun x : Dev nD × Ck => reached ER (cell x.1 x.2) 0)
    ∗ levAts L lv)

instance PC_persistent : BI.Persistent (PC X W κ ν) := by unfold PC; infer_instance

theorem PC_cell (c : Dev nD) (k : Ck) : PC X W κ ν ⊢ cellInv ER (Rd X W) (κ (c, k)) (cell c k) := by
  unfold PC
  iintro ⟨#H, -⟩
  iapply (bigSep_get (Finset.mem_univ (c, k)) (Φ := fun x : Dev nD × Ck => cellInv ER (Rd X W) (κ x) (cell x.1 x.2))); iexact H

theorem PC_slot (k : Key) (hk : k ∈ keys) : PC X W κ ν ⊢ slotInv ES (ν k) k (slotOf k) := by
  unfold PC
  iintro ⟨-, #H, -⟩
  iapply (bigSep_get hk (Φ := fun k => slotInv ES (ν k) k (slotOf (F := F) k))); iexact H

theorem PC_reached (c : Dev nD) (k : Ck) : PC X W κ ν ⊢ reached ER (cell c k) 0 := by
  unfold PC
  iintro ⟨-, -, #H, -⟩
  iapply (bigSep_get (Finset.mem_univ (c, k)) (Φ := fun x : Dev nD × Ck => (reached ER (cell x.1 x.2) 0 : sProp 𝕄))); iexact H

theorem PC_lev : PC X W κ ν ⊢ (levAts L lv : sProp 𝕄) := by
  unfold PC
  iintro ⟨-, -, -, #H⟩
  iexact H

end Ctx

theorem mem_keys (a : Dev nD) (p : Fin 2) (r : Fin 8) {m : ℕ} (hm : m < 5) : (a, p, r, m) ∈ keys :=
  Finset.mem_product.mpr ⟨Finset.mem_univ _, Finset.mem_product.mpr ⟨Finset.mem_univ _, Finset.mem_product.mpr ⟨Finset.mem_univ _, Finset.mem_range.mpr hm⟩⟩⟩

theorem bigSep_first {M : Type} [URA M] {n m : ℕ} (h : n < m) (Φ : ℕ → sProp M) :
    bigSep (Finset.Ico n m) Φ = iprop(Φ n ∗ bigSep (Finset.Ico (n + 1) m) Φ) := by
  rw [Ico_first h, bigSep_insert (by simp)]; rfl

theorem bigSep_last {M : Type} [URA M] (n : ℕ) (Φ : ℕ → sProp M) :
    bigSep (Finset.range (n + 1)) Φ = iprop(Φ n ∗ bigSep (Finset.range n) Φ) := by
  rw [Finset.range_add_one, bigSep_insert Finset.notMem_range_self]; rfl

end Cert.KernelIdeal.Hand

end
end
-- ==== Proof.KernelIdeal.Ops.lean ====
/-
# The rings' steps, one by one

One rule for each kind of step of the body: sending a message, waiting for one, freeing a slot, taking a credit,
reading and writing slots and tiles.
-/
module

public import proofs.«01_k».proof.Proof.KernelIdeal.Proto

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- The weakest precondition of a program of device `c`. -/
abbrev wpC (c : Dev nD) (k : P F) (Q : PUnit.{1} → sProp 𝕄) : sProp 𝕄 :=
  wp frame (wpE (defs₀ (F := F)) 𝒱₀ (c : Thread nD τ) none) Set.univ k Q

variable (X : Dev nD → Vec F S4096x512 .bf16) (W : Dev nD → Vec F S512x2048 .bf16) (κ : Dev nD × Ck → ℕ) (ν : Key → ℕ)
variable (c : Dev nD) (p : Fin 2) (r : Fin 8) {k : P F} {Q : PUnit.{1} → sProp (MT nD τ sig ℕ (Elt F) ℕ UU ℕ)}

theorem dut_snd {t : ℕ} (ht : t < 7) : dutOf (.snd p r (par t)) (t / 2) = {0} := by
  show (if t / 2 < 4 - t % 2 then ({0} : Finset ℕ) else ∅) = _
  rw [if_pos (by omega)]
theorem dut_rcv {t : ℕ} (ht : t < 7) : dutOf (.rcv p r (par t)) (t / 2) = {0} := dut_snd p r ht

theorem two_half (t : ℕ) : 2 * (t / 2) + (par t).val = t := by show 2 * (t / 2) + t % 2 = t; omega

theorem pay_snd (t : ℕ) : payOf X W c (.snd p r (par t)) (t / 2) 0 = slotIs c (srcB p t) r (srcJ p t) (shr p t) (MV X W p r t c) := by
  show slotIs c (srcB p (2 * (t / 2) + (par t).val)) r (srcJ p (2 * (t / 2) + (par t).val)) (shr p (2 * (t / 2) + (par t).val)) (MV X W p r (2 * (t / 2) + (par t).val) c) = _
  rw [two_half]
theorem pay_rcv (t : ℕ) : payOf X W c (.rcv p r (par t)) (t / 2) 0 = slotIs c (dstB p) r (par t) fullShare (MV X W p r t (wrtD r c)) := by
  show slotIs c (dstB p) r (par t) fullShare (MV X W p r (2 * (t / 2) + (par t).val) (wrtD r c)) = _
  rw [two_half]

theorem rest_snd {t : ℕ} (ht : t < 7) :
    bigSep ((Rd X W).duties ((c : Thread nD τ), SemLoc.dma (sndS p r (par t)).sem) (t / 2) \ ∅)
        (fun d => (Rd X W).payload ((c : Thread nD τ), SemLoc.dma (sndS p r (par t)).sem) (t / 2) d)
      = slotIs c (srcB p t) r (srcJ p t) (shr p t) (MV X W p r t c) := by
  rw [Finset.sdiff_empty]
  refine Eq.trans (congrArg (fun S => bigSep S _) ((duties_cell X W c (.snd p r (par t)) (t / 2)).trans (dut_snd p r ht))) ?_
  rw [bigSep_singleton]
  exact (payload_cell X W c (.snd p r (par t)) (t / 2) 0).trans (pay_snd X W c p r t)
theorem rest_rcv {t : ℕ} (ht : t < 7) :
    bigSep ((Rd X W).duties ((c : Thread nD τ), SemLoc.dma (rcvS p r (par t)).sem) (t / 2) \ ∅)
        (fun d => (Rd X W).payload ((c : Thread nD τ), SemLoc.dma (rcvS p r (par t)).sem) (t / 2) d)
      = slotIs c (dstB p) r (par t) fullShare (MV X W p r t (wrtD r c)) := by
  rw [Finset.sdiff_empty]
  refine Eq.trans (congrArg (fun S => bigSep S _) ((duties_cell X W c (.rcv p r (par t)) (t / 2)).trans (dut_rcv p r ht))) ?_
  rw [bigSep_singleton]
  exact (payload_cell X W c (.rcv p r (par t)) (t / 2) 0).trans (pay_rcv X W c p r t)

theorem par_two (t : ℕ) : par (t + 2) = par t := Fin.ext (by show (t + 2) % 2 = t % 2; omega)

theorem Pos_succ (w : ℕ) : iprop(PosAt c p r (par (w + 1)) ((w + 1) / 2) ∗ PosAt c p r (par w) (w / 2 + 1)) ⊢ (Pos c p r (w + 1) : sProp 𝕄) := by
  unfold Pos
  rw [show w + 1 + 1 = w + 2 from rfl, par_two, show (w + 2) / 2 = w / 2 + 1 by omega]

theorem Pos_open (w : ℕ) : (Pos c p r w : sProp 𝕄) ⊢
    iprop(((atPos ER (cell c (.snd p r (par w))) (w / 2) ∅ 0 ∗ reached ER (cell c (.snd p r (par w))) (w / 2))
      ∗ (atPos ER (cell c (.rcv p r (par w))) (w / 2) ∅ 0 ∗ reached ER (cell c (.rcv p r (par w))) (w / 2)))
      ∗ PosAt c p r (par (w + 1)) ((w + 1) / 2)) := by
  unfold Pos
  iintro ⟨H1, H2⟩
  isplitl [H1]; · unfold PosAt; iexact H1
  iexact H2

/-! ## Messages -/

theorem wp_recv {t key : ℕ} (ht : t < 7) (h3 : 3 ≤ key) (hk : kSend p r t < key) :
    iprop(PC X W κ ν ∗ Ow c key ∗ Pos c p r t ∗ RcvC c p r t ∗ cred (tallyAt (cell c (.snd p r (par t))) 0 N))
      ⊢ iprop((Ow c key ∗ Pos c p r (t + 1) ∗ RcvC c p r (t + 1)
            ∗ slotIs c (srcB p t) r (srcJ p t) (shr p t) (MV X W p r t c) ∗ slotIs c (dstB p) r (par t) fullShare (MV X W p r t (wrtD r c))
          -∗ wpC c k Q) -∗ wpC c (recv p r t k) Q) := by
  have hkb : kSend p r t < 227 := by have := p.isLt; have := r.isLt; unfold kSend; omega
  have hs : 0 + (slotM (srcB p t) r (srcJ p t)).view.dmaCredit = (Rd X W).expect (cell c (.snd p r (par t))) (t / 2) := by
    rw [expect_cell, dut_snd p r ht, Finset.card_singleton, zero_add, one_mul]; exact amount_slot _ _ _ (sndS p r (par t)).sem
  have hr : 0 + (slotM (dstB p) r (par t)).view.dmaCredit = (Rd X W).expect (cell c (.rcv p r (par t))) (t / 2) := by
    rw [expect_cell, dut_rcv p r ht, Finset.card_singleton, zero_add, one_mul]; exact amount_slot _ _ _ (rcvS p r (par t)).sem
  unfold Ow RcvC recv
  rw [bigSep_first ht]
  iintro ⟨#HPC, ⟨%Wt, HO⟩, HP, ⟨HcV, HcR⟩, HcS⟩ Hk
  ihave HP := (Pos_open c p r t) $$ HP
  icases HP with ⟨⟨⟨HaS, #HrS⟩, ⟨HaV, #HrV⟩⟩, HP2⟩
  iapply (Rounds.wp_wait_rest_token 𝒱₀ ER (Rd X W) (c : Thread nD τ) none (κ := κ (c, .snd p r (par t)))
      (wpE_waitDma2_eq 𝒱₀ (c : Thread nD τ) none Set.univ) (Set.mem_univ _) 0 (O := owed c key) (W := Wt) (R := t / 2) (m := 0) (T := ∅) hs) $$ [HcS HO HaS]
  · isplitr; · iapply (PC_cell X W κ ν c (.snd p r (par t))); iexact HPC
    isplitl [HcS]; · iexact HcS
    isplitl [HO]; · iexact HO
    isplitr
    · iapply (mayWait c (.dma (sndS p r (par t)).sem) 0 key (by decide) (.inl ⟨rfl, by omega⟩)); iapply (PC_lev X W κ ν); iexact HPC
    iexact HaS
  iintro ⟨HO, HaS, #HrS', Hp1⟩
  iapply (Rounds.wp_wait_rest_token 𝒱₀ ER (Rd X W) (c : Thread nD τ) none (κ := κ (c, .rcv p r (par t)))
      (wpE_waitDma2_eq 𝒱₀ (c : Thread nD τ) none Set.univ) (Set.mem_univ _) (kSend p r t) (O := owed c key) (R := t / 2) (m := 0) (T := ∅) hr) $$ [HcV HO HaV]
  · isplitr; · iapply (PC_cell X W κ ν c (.rcv p r (par t))); iexact HPC
    isplitl [HcV]; · iexact HcV
    isplitl [HO]; · iexact HO
    isplitr
    · iapply (mayWait c (.dma (rcvS p r (par t)).sem) (kSend p r t) key hkb (.inr ⟨h3, hk⟩)); iapply (PC_lev X W κ ν); iexact HPC
    iexact HaV
  iintro ⟨HO, HaV, #HrV', Hp2⟩
  ihave Hp1 := (Entails.of_eq (rest_snd X W c p r ht)) $$ Hp1
  ihave Hp2 := (Entails.of_eq (rest_rcv X W c p r ht)) $$ Hp2
  iapply Hk
  isplitl [HO]; · iexists _; iexact HO
  isplitl [HaS HaV HP2]
  · iapply (Pos_succ c p r t)
    isplitl [HP2]; · iexact HP2
    unfold PosAt
    isplitl [HaS]
    · isplitl [HaS]; · iexact HaS
      iexact HrS'
    · isplitl [HaV]; · iexact HaV
      iexact HrV'
  isplitl [HcR]; · iexact HcR
  isplitl [Hp1]; · iexact Hp1
  iexact Hp2

/-- A transfer of one slot into another, the target given by an equation. -/
theorem wp_send_to (n : Dev nD) (hn : n = tgtD r c) {t key : ℕ} (ht : t < 7) (hkey : key = kSend p r t) :
    iprop(PC X W κ ν ∗ Ow c key ∗ SndT c p r t ∗ reached ER (cell c (.snd p r (par t))) (t / 2)
        ∗ slotIs c (srcB p t) r (srcJ p t) (shr p t) (MV X W p r t c) ∗ Dest c p r t)
      ⊢ iprop((Ow c (key + 1) ∗ SndT c p r (t + 1) ∗ cred (tallyAt (cell c (.snd p r (par t))) 0 N) -∗ wpC c k Q)
          -∗ wpC c (.op (.enqueueDma (slotM (srcB p t) r (srcJ p t))
            (.remote (Dev.tc n) (slotM (dstB p) r (par t)) (.dma (sndS p r (par t)).sem)) (.dma (rcvS p r (par t)).sem)
            (slotM_exact _ _ _) (slotM_exact _ _ _) ⟨⟨rfl, Or.inl rfl⟩, trivial⟩) fun _ => k) Q) := by
  subst hn hkey
  have hkb : kSend p r t < 227 := by have := p.isLt; have := r.isLt; unfold kSend; omega
  unfold Ow SndT Dest slotIs anySlot slot
  rw [bigSep_first ht]
  iintro ⟨#HPC, ⟨%Wt, HO⟩, ⟨⟨HtS, HtV⟩, HT⟩, #HrS, ⟨%fs, %hfs, Hs⟩, ⟨⟨%fd, Hd⟩, #HrV⟩⟩ Hk
  iapply (Rounds.wp_send_pointsTo 𝒱₀ ER (Rd X W) (c : Thread nD τ) none (κ₁ := κ (c, .snd p r (par t))) (κ₂ := κ (tgtD r c, .rcv p r (par t)))
      (src := slotM (srcB p t) r (srcJ p t)) (dst := slotM (dstB p) r (par t)) (q := shr p t) (fs := fs)
      (r₁ := t / 2) (r₂ := t / 2) (d₁ := 0) (d₂ := 0) (fd := fd) (c' := (tgtD r c : Thread nD τ))
      (by exact (duties_cell X W c (.snd p r (par t)) _).symm ▸ (dut_snd p r ht).symm ▸ Finset.mem_singleton_self _)
      (by exact (duties_cell X W (tgtD r c) (.rcv p r (par t)) _).symm ▸ (dut_rcv p r ht).symm ▸ Finset.mem_singleton_self _)
      (kSend p r t) 0 N (amount_slot _ _ _ _) (amount_cell X W c (.snd p r (par t)) _ _) (amount_cell X W (tgtD r c) (.rcv p r (par t)) _ _)
      (owed c (kSend p r t + 1)) ((owed_succ c hkb).trans (by rw [tal_send c p r t ht]; rfl)) (W := Wt) ?_ ?_) $$ [HO HtS HtV Hs Hd]
  · rw [payload_cell, pay_snd, slotM_set]; unfold slotIs
    iintro H; iexists fs; isplitr; · (ipureintro; exact hfs)
    iexact H
  · refine BIBase.Entails.trans ?_ (Entails.of_eq ((payload_cell X W (tgtD r c) (.rcv p r (par t)) (t / 2) 0).trans (pay_rcv X W (tgtD r c) p r t)).symm)
    rw [slotM_set, wrt_tgt]; unfold slotIs
    iintro H; iexists _; isplitr; rotate_left
    · iexact H
    · ipureintro; exact (slot_move _ _ _ _ _ fs fd).trans hfs
  · isplitr; · iapply (PC_cell X W κ ν c (.snd p r (par t))); iexact HPC
    isplitr; · iapply (PC_cell X W κ ν (tgtD r c) (.rcv p r (par t))); iexact HPC
    isplitl [Hs]; · rw [slotM_set]; iexact Hs
    isplitl [Hd]; · rw [slotM_set]; iexact Hd
    isplitl [HO]; · iexact HO
    isplitl [HtS]; · iexact HtS
    isplitr; · iexact HrS
    isplitl [HtV]; · iexact HtV
    iexact HrV
  iintro ⟨HcS, HO⟩
  iapply Hk
  isplitl [HO]; · iexists _; iexact HO
  isplitl [HT]; · iexact HT
  iexact HcS

theorem wp_send {t key : ℕ} (ht : t < 7) (hkey : key = kSend p r t) :
    iprop(PC X W κ ν ∗ Ow c key ∗ SndT c p r t ∗ reached ER (cell c (.snd p r (par t))) (t / 2)
        ∗ slotIs c (srcB p t) r (srcJ p t) (shr p t) (MV X W p r t c) ∗ Dest c p r t)
      ⊢ iprop((Ow c (key + 1) ∗ SndT c p r (t + 1) ∗ cred (tallyAt (cell c (.snd p r (par t))) 0 N) -∗ wpC c k Q)
          -∗ wpC c (send c p r t k) Q) :=
  wp_send_to X W κ ν c p r (tgtD r c) rfl ht hkey

/-! ## Credits -/

theorem one_nat : (1#32 : BitVec 32).toInt.toNat = 1 := by decide

theorem dut_crd : dutOf (.crd p r) 0 = Finset.range 5 := rfl

theorem pay_crd (m : ℕ) :
    iprop((released ES (c, p, r, m) 1 ∗ reached ER (cell c (.rcv p r (par m))) (m / 2 + 1))
        ∗ bigSep (Finset.range m) fun i => iprop(released ES (c, p, r, i) 1 ∗ reached ER (cell c (.rcv p r (par i))) (i / 2 + 1)))
      ⊢ (Rd X W).payload ((wrtD r c : Thread nD τ), SemLoc.reg (crdS p r).sem) 0 m := by
  refine BIBase.Entails.trans ?_ (Entails.of_eq (payload_cell X W (wrtD r c) (.crd p r) 0 m).symm)
  show _ ⊢ heard (F := F) (tgtD r (wrtD r c)) p r m
  unfold heard
  rw [tgt_wrt, bigSep_last]

theorem wp_free_to (n : Dev nD) (hn : n = wrtD r c) {m key : ℕ} (hm : m < 5) (hkey : key = kFree p r m) :
    iprop(PC X W κ ν ∗ Ow c key ∗ Fr c p r m ∗ anySlot c (dstB p) r (par m) ∗ reached ER (cell c (.rcv p r (par m))) (m / 2 + 1))
      ⊢ iprop((Ow c (key + 1) ∗ Fr c p r (m + 1) -∗ wpC c k Q)
          -∗ wpC c (.op (.semSignal (n, .tc) (crdS p r).sem (1#32).toInt) fun _ => k) Q) := by
  subst hn hkey
  have hkb : kFree p r m < 227 := by have := p.isLt; have := r.isLt; unfold kFree; omega
  unfold Ow Fr
  rw [bigSep_first hm, bigSep_last]
  iintro ⟨#HPC, ⟨%Wt, HO⟩, ⟨⟨⟨Ht, Hrd⟩, HT⟩, #Hh⟩, Hs, #HrV⟩ Hk
  imod (slot_release ES (ι := ν (c, p, r, m)) (k := (c, p, r, m)) (S := slotOf (c, p, r, m)) (Es := Set.univ) (Set.mem_univ _)
    (slot_slot_false (slot_nonempty _ _ _)) 0) $$ [Hrd Hs] with ⟨-, #Hrel⟩
  · isplitr; · iapply (PC_slot X W κ ν (c, p, r, m) (mem_keys c p r hm)); iexact HPC
    isplitl [Hrd]; · iexact Hrd
    iexact Hs
  iapply (Rounds.wp_signal 𝒱₀ ER (Rd X W) (c : Thread nD τ) none (dst := (wrtD r c : Thread nD τ)) (κ := κ (wrtD r c, .crd p r)) (r := 0) (d := m)
      (by exact (duties_cell X W (wrtD r c) (.crd p r) 0).symm ▸ (dut_crd p r).symm ▸ Finset.mem_range.mpr hm)
      ((amount_cell X W (wrtD r c) (.crd p r) 0 m).trans one_nat.symm) (kFree p r m) (owed c (kFree p r m + 1))
      ((owed_succ c hkb).trans (by rw [tal_free c p r m hm]; rfl))) $$ [HO Ht]
  · isplitr; · iapply (PC_cell X W κ ν (wrtD r c) (.crd p r)); iexact HPC
    isplitl [HO]; · iexact HO
    isplitl [Ht]; · iexact Ht
    isplitr
    · iapply (pay_crd X W c p r m)
      isplitl
      · isplitl; · iexact Hrel
        iexact HrV
      iexact Hh
    iapply (PC_reached X W κ ν (wrtD r c) (.crd p r)); iexact HPC
  iintro HO
  iapply Hk
  isplitl [HO]; · iexists _; iexact HO
  isplitl [HT]; · iexact HT
  isplitl
  · isplitl; · iexact Hrel
    iexact HrV
  iexact Hh

theorem wp_free {m key : ℕ} (hm : m < 5) (hkey : key = kFree p r m) :
    iprop(PC X W κ ν ∗ Ow c key ∗ Fr c p r m ∗ anySlot c (dstB p) r (par m) ∗ reached ER (cell c (.rcv p r (par m))) (m / 2 + 1))
      ⊢ iprop((Ow c (key + 1) ∗ Fr c p r (m + 1) -∗ wpC c k Q) -∗ wpC c (free c p r k) Q) :=
  wp_free_to X W κ ν c p r (wrtD r c) rfl hm hkey

theorem wp_take {m key : ℕ} (hm : m < 5) (h3 : 3 ≤ key) (hk : kFree p r m < key) :
    iprop(PC X W κ ν ∗ Ow c key ∗ Tk c p r m)
      ⊢ iprop((Ow c key ∗ Tk c p r (m + 1) ∗ Dest c p r (m + 2) -∗ wpC c k Q) -∗ wpC c (take p r k) Q) := by
  have hkb : kFree p r m < 227 := by have := p.isLt; have := r.isLt; unfold kFree; omega
  unfold Ow Tk take
  rw [bigSep_first hm]
  iintro ⟨#HPC, ⟨%Wt, HO⟩, ⟨⟨%S, %hS, Hat, #Hh⟩, ⟨⟨Hc, Hw⟩, HT⟩⟩⟩ Hk
  iapply (Rounds.wp_wait 𝒱₀ ER (Rd X W) (c : Thread nD τ) none (κ := κ (c, .crd p r))
      (wpE_semWait_eq 𝒱₀ (c : Thread nD τ) none Set.univ) (Set.mem_univ _) {((Ck.crd p r).loc, kFree p r m)} (cr := Finsupp.single (kFree p r m) 1)
      (O := owed c key) (W := Wt) (R := 0) (m := m) (T := S)
      (by rw [Util.total_single]; decide) (image_single_subset _ _ _)) $$ [Hc HO Hat]
  · isplitr; · iapply (PC_cell X W κ ν c (.crd p r)); iexact HPC
    isplitl [Hc]; · iexact Hc
    isplitl [HO]; · iexact HO
    isplitr
    · iapply (mayWait c (Ck.crd p r).loc (kFree p r m) key hkb (.inr ⟨h3, hk⟩)); iapply (PC_lev X W κ ν); iexact HPC
    iexact Hat
  iintro %S' ⟨%hS', HO, Hat, Hp⟩
  obtain ⟨h1, h2, h4⟩ := hS'
  have h2' : S' ⊆ Finset.range 5 := by
    rw [show (Rd X W).duties ((c : Thread nD τ), SemLoc.reg (crdS p r).sem) 0 = Finset.range 5 from duties_cell X W c (.crd p r) 0] at h2; exact h2
  have h4' : m + 1 ≤ S'.card := by
    rw [show (Rd X W).duties ((c : Thread nD τ), SemLoc.reg (crdS p r).sem) 0 = Finset.range 5 from duties_cell X W c (.crd p r) 0,
      show (Rd X W).expect ((c : Thread nD τ), SemLoc.reg (crdS p r).sem) 0 = 5 from expect_cell X W c (.crd p r) 0,
      Finset.card_sdiff_of_subset h2', Finset.card_range] at h4
    have h5 : S'.card ≤ 5 := (Finset.card_le_card h2').trans (by rw [Finset.card_range])
    have h6 : (1#32 : BitVec 32).toNat = 1 := by decide
    omega
  obtain ⟨d, hd, hmd⟩ : ∃ d ∈ S', m ≤ d := by
    by_contra hn
    push Not at hn
    have : S' ⊆ Finset.range m := fun x hx => Finset.mem_range.mpr (hn x hx)
    have := Finset.card_le_card this
    rw [Finset.card_range] at this; omega
  have hun : iprop(bigSep S (fun d => heard (tgtD r c) p r d) ∗ bigSep (S' \ S) (fun d => heard (tgtD r c) p r d)) ⊢ (bigSep S' fun d => heard (F := F) (tgtD r c) p r d) := by
    rw [← Finset.union_sdiff_of_subset h1]
    rw [bigSep_union (Finset.disjoint_sdiff)]
    rw [Finset.union_sdiff_of_subset h1]
    iintro H; iexact H
  have hpay : bigSep (S' \ S) (fun d => (Rd X W).payload ((c : Thread nD τ), SemLoc.reg (crdS p r).sem) 0 d) = bigSep (S' \ S) (fun d => heard (F := F) (tgtD r c) p r d) :=
    bigSep_congr fun d _ => payload_cell X W c (.crd p r) 0 d
  ihave Hp := (Entails.of_eq hpay) $$ Hp
  ihave Hall := hun $$ [Hp]
  · isplitr; · iexact Hh
    iexact Hp
  icases Hall with #Hall
  have hg1 : (bigSep S' fun d => heard (F := F) (tgtD r c) p r d) ⊢ heard (F := F) (tgtD r c) p r d := bigSep_get hd
  have hg2 : heard (F := F) (tgtD r c) p r d ⊢ iprop(released ES (tgtD r c, p, r, m) 1 ∗ reached ER (cell (tgtD r c) (.rcv p r (par m))) (m / 2 + 1)) := by
    unfold heard; exact bigSep_get (Finset.mem_range.mpr (by omega))
  ihave Hm := hg1 $$ Hall
  ihave Hm := hg2 $$ Hm
  icases Hm with ⟨#Hrel, #Hrch⟩
  imod (slot_take ES (ι := ν (tgtD r c, p, r, m)) (k := (tgtD r c, p, r, m)) (S := slotOf (tgtD r c, p, r, m)) (Es := Set.univ) (Set.mem_univ _) 1) $$ [Hw] with Hs
  · isplitr; · iapply (PC_slot X W κ ν (tgtD r c, p, r, m) (mem_keys (tgtD r c) p r hm)); iexact HPC
    isplitr; · iexact Hrel
    iexact Hw
  iapply Hk
  isplitl [HO]; · iexists _; iexact HO
  isplitl [Hat HT]
  · isplitl [Hat]
    · iexists S'
      isplitr; · (ipureintro; exact ⟨h2', h4'⟩)
      isplitl [Hat]; · iexact Hat
      iexact Hall
    iexact HT
  unfold Dest
  rw [par_two, show (m + 2) / 2 = m / 2 + 1 by omega]
  isplitl [Hs]; · iexact Hs
  iexact Hrch

/-! ## Slots and tiles -/

section Mem
variable (b : Bf) (j : Fin 2)

theorem wp_ldSlot (q : PosShare TreeShare) (x : FVec F S1x1x512x256 .bf16) {k : Vec F S1x1x512x256 .bf16 → P F} :
    slotIs c b r j q x ⊢ iprop((slotIs c b r j q x -∗ wpC c (k x) Q) -∗ wpC c (ldSlot b r j k) Q) := by
  unfold slotIs ldSlot
  iintro ⟨%f, %hf, H⟩ Hk
  iapply (wp_load_rect 𝒱₀ (c : Thread nD τ) none Set.univ (m := bfM b) (r := slotR r j) (Finset.Subset.refl _)) $$ H; iintro H
  rw [show ((bfM b).access (slotR r j)).read (Elt F) f = x from hf]
  iapply Hk; iexists f; isplitr; · (ipureintro; exact hf)
  iexact H

theorem wp_ldSlot_any :
    anySlot c b r j ⊢ iprop((anySlot c b r j -∗ wpC c k Q) -∗ wpC c (ldSlot b r j fun _ => k) Q) := by
  unfold anySlot slot ldSlot
  iintro ⟨%f, H⟩ Hk
  iapply (wp_load_rect 𝒱₀ (c : Thread nD τ) none Set.univ (m := bfM b) (r := slotR r j) (Finset.Subset.refl _)) $$ H; iintro H
  iapply Hk; iexists f; iexact H

theorem wp_stSlot (v : FVec F S1x1x512x256 .bf16) :
    anySlot c b r j ⊢ iprop((slotIs c b r j fullShare v -∗ wpC c k Q) -∗ wpC c (stSlot b r j v k) Q) := by
  unfold anySlot slot slotIs stSlot
  iintro ⟨%f, H⟩ Hk
  iapply (wp_store 𝒱₀ (c : Thread nD τ) none Set.univ (m := bfM b) (r := slotR r j) (Mk := Finset.univ) (S := (slotV b r j).set) (f := f) (Finset.Subset.refl _)) $$ H; iintro H
  iapply Hk; iexists _; isplitr; rotate_left
  · iexact H
  · ipureintro; exact View.read_write_univ _ _

end Mem

/-- The result, whole, at given contents. -/
def OutAt (f : Vec F S4096x2048 .f32) : sProp 𝕄 := (((c : Thread nD τ).loc cc0_stg2_0) ↦{fullShare} f : sProp 𝕄)

theorem wp_ldOut (ρ : Rect S4096x2048) (hs : 0 < ρ.shape.numel) (f : Vec F S4096x2048 .f32) {k : Vec F ρ.shape .f32 → P F} :
    OutAt c f ⊢ iprop((OutAt c f -∗ wpC c (k ((oM.access ρ).read (Elt F) f)) Q) -∗ wpC c (ldOut ρ hs k) Q) :=
  wp_load_rect 𝒱₀ (c : Thread nD τ) none Set.univ (m := oM) (r := ρ) (Finset.subset_univ _)

theorem wp_stOut (ρ : Rect S4096x2048) (hs : 0 < ρ.shape.numel) (v : FVec F ρ.shape .f32) (f : Vec F S4096x2048 .f32) :
    OutAt c f ⊢ iprop((OutAt c ((oM.access ρ).write (Elt F) f v Finset.univ) -∗ wpC c k Q) -∗ wpC c (stOut ρ hs v k) Q) := by
  unfold OutAt stOut
  iintro H Hk
  iapply (wp_store 𝒱₀ (c : Thread nD τ) none Set.univ (m := oM) (r := ρ) (Mk := Finset.univ) (S := Finset.univ) (f := f) (Finset.subset_univ _)) $$ H; iintro H
  iapply Hk; iexact H

end Cert.KernelIdeal.Hand

end
end
-- ==== Proof.KernelIdeal.Rings.lean ====
/-
# A ring's steps

What a ring holds between the steps of the body, and that each step leads from one such state to the next.
-/
module

public import proofs.«01_k».proof.Proof.KernelIdeal.Ops

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## States -/

section States
variable (X : Dev nD → Vec F S4096x512 .bf16) (W : Dev nD → Vec F S512x2048 .bf16) (c : Dev nD) (p : Fin 2) (r : Fin 8)

/-- A phase after `n` messages sent, `w` awaited, `g` slots freed, `k` credits taken. -/
def Ph (n w g k : ℕ) : sProp 𝕄 := iprop(SndT c p r n ∗ Pos c p r w ∗ RcvC c p r w ∗ Fr c p r g ∗ Tk c p r k)

/-- Message `t` is on its way. -/
def crS (t : ℕ) : sProp 𝕄 := cred (tallyAt (cell c (.snd p r (par t))) 0 N)

/-- Adding up: message `s` on its way. -/
def A0 (s : ℕ) : sProp 𝕄 :=
  iprop(Ph c 0 r (s + 1) s (min s 5) (s - 1) ∗ crS c 0 r s ∗ anySlot c .st r (par (s + 1)) ∗ (if s = 0 then Dest c 0 r 1 else emp) ∗ (if s = 6 then anySlot c .rs r 1 else emp))

/-- Message `s` awaited. -/
def B0 (s : ℕ) : sProp 𝕄 :=
  iprop(Ph c 0 r (s + 1) (s + 1) (min s 5) (s - 1) ∗ anySlot c .st r (par s) ∗ slotIs c .rs r (par s) fullShare (MV X W 0 r s (wrtD r c))
    ∗ anySlot c .st r (par (s + 1)) ∗ (if s = 0 then Dest c 0 r 1 else emp) ∗ (if s = 6 then anySlot c .rs r 1 else emp))

/-- Its sum staged. -/
def C0 (s : ℕ) : sProp 𝕄 :=
  iprop(Ph c 0 r (s + 1) (s + 1) (min s 5) (s - 1) ∗ anySlot c .st r (par s) ∗ anySlot c .rs r (par s)
    ∗ slotIs c .st r (par (s + 1)) fullShare (MV X W 0 r (s + 1) c) ∗ (if s = 0 then Dest c 0 r 1 else emp))

/-- Its slot freed. -/
def D0 (s : ℕ) : sProp 𝕄 :=
  iprop(Ph c 0 r (s + 1) (s + 1) (min (s + 1) 5) (s - 1) ∗ anySlot c .st r (par s)
    ∗ slotIs c .st r (par (s + 1)) fullShare (MV X W 0 r (s + 1) c) ∗ (if s = 0 then Dest c 0 r 1 else emp) ∗ (if s + 1 = 6 then anySlot c .rs r 1 else emp))

/-- Adding up done. -/
def F0 : sProp 𝕄 := iprop(Ph c 0 r 7 7 5 5 ∗ anySlot c .st r 1 ∗ anySlot c .rs r 0 ∗ anySlot c .rs r 1)

/-- The whole sum staged. -/
def G0 : sProp 𝕄 := iprop(F0 c r ∗ slotIs c .st r 0 fullShare (MV X W 1 r 0 c))

/-- Handing round not begun. -/
def Z1 : sProp 𝕄 := iprop(Ph c 1 r 0 0 0 0 ∗ Dest c 1 r 0 ∗ Dest c 1 r 1)

/-- Handing round: message `s` on its way. -/
def A1 (s : ℕ) : sProp 𝕄 :=
  iprop(Ph c 1 r (s + 1) s (s - 1) (s - 1) ∗ crS c 1 r s
    ∗ (if s = 0 then Dest c 1 r 1 else iprop(anySlot c .st r 0 ∗ slotIs c .ag r (par (s + 1)) fullShare.right (MV X W 1 r s c))))

/-- Message `s` awaited. -/
def B1 (s : ℕ) : sProp 𝕄 :=
  iprop(Ph c 1 r (s + 1) (s + 1) (s - 1) (s - 1) ∗ anySlot c .st r 0 ∗ slotIs c .ag r (par s) fullShare (MV X W 1 r s (wrtD r c))
    ∗ (if s = 0 then Dest c 1 r 1 else anySlot c .ag r (par (s + 1))))

/-- The slot before it freed. -/
def C1 (s : ℕ) : sProp 𝕄 :=
  iprop(Ph c 1 r (s + 1) (s + 1) (min s 5) (s - 1) ∗ anySlot c .st r 0 ∗ slotIs c .ag r (par s) fullShare (MV X W 1 r s (wrtD r c))
    ∗ (if s = 0 then Dest c 1 r 1 else emp) ∗ (if s = 6 then anySlot c .ag r 1 else emp))

/-- Handing round done. -/
def F1 : sProp 𝕄 := iprop(Ph c 1 r 7 7 5 5 ∗ anySlot c .st r 0 ∗ slotIs c .ag r 0 fullShare (MV X W 1 r 6 (wrtD r c)) ∗ anySlot c .ag r 1)

/-- The state after step `s` of handing round. -/
def D1 (s : ℕ) : sProp 𝕄 := if s = 6 then F1 X W c r else A1 X W c r (s + 1)

end States

/-! ## Pieces -/

section Pieces
variable (c : Dev nD) (p : Fin 2) (r : Fin 8)

theorem Pos_snd (w : ℕ) : (Pos c p r w : sProp 𝕄) ⊢ iprop(Pos c p r w ∗ reached ER (cell c (.snd p r (par w))) (w / 2)) := by
  unfold Pos PosAt
  iintro ⟨⟨⟨HaS, #HrS⟩, HV⟩, H2⟩
  isplitl
  · isplitl [HaS HV]
    · isplitl [HaS]
      · isplitl [HaS]; · iexact HaS
        iexact HrS
      iexact HV
    iexact H2
  iexact HrS

theorem Pos_rcv (w : ℕ) : (Pos c p r w : sProp 𝕄) ⊢ iprop(Pos c p r w ∗ reached ER (cell c (.rcv p r (par w))) (w / 2)
    ∗ reached ER (cell c (.rcv p r (par (w + 1)))) ((w + 1) / 2)) := by
  unfold Pos PosAt
  iintro ⟨⟨HS, ⟨HaV, #HrV⟩⟩, ⟨HS', ⟨HaV', #HrV'⟩⟩⟩
  isplitl
  · isplitl [HS HaV]
    · isplitl [HS]; · iexact HS
      isplitl [HaV]; · iexact HaV
      iexact HrV
    · isplitl [HS']; · iexact HS'
      isplitl [HaV']; · iexact HaV'
      iexact HrV'
  isplitr; · iexact HrV
  iexact HrV'

/-- A slot's contents held in two halves. -/
theorem slot_split (b : Bf) (j : Fin 2) (x : FVec F S1x1x512x256 .bf16) :
    slotIs c b r j fullShare x ⊢ iprop(slotIs c b r j fullShare.left x ∗ slotIs c b r j fullShare.right x) := by
  unfold slotIs
  iintro ⟨%f, %hf, H⟩
  ihave H := (pointsTo_share (PosShare.mem_left_op_right fullShare)).1 $$ H
  icases H with ⟨H1, H2⟩
  isplitl [H1]
  · iexists f; isplitr; · (ipureintro; exact hf)
    iexact H1
  · iexists f; isplitr; · (ipureintro; exact hf)
    iexact H2

theorem slot_join (b : Bf) (j : Fin 2) (x y : FVec F S1x1x512x256 .bf16) :
    iprop(slotIs c b r j fullShare.left x ∗ slotIs c b r j fullShare.right y) ⊢ anySlot c b r j := by
  unfold slotIs anySlot slot
  iintro ⟨⟨%f, %hf, H1⟩, ⟨%g, %hg, H2⟩⟩
  ihave %he := pointsTo_agree $$ [H1 H2]
  · isplitl [H1]; · iexact H1
    iexact H2
  iexists f
  iapply (pointsTo_share (PosShare.mem_left_op_right fullShare)).2
  isplitl [H1]; · iexact H1
  iapply (Entails.of_eq (pointsTo_congr fun i hi => (he i (Finset.mem_inter.mpr ⟨hi, hi⟩)).1.symm)) $$ H2

theorem Ow_skip (k : ℕ) (hk : 3 ≤ k) (hk' : k < 227) (h0 : (k - 3) % 4 / 2 = 0) (hi : ¬ (1 ≤ (k - 3) / 16 ∧ (k - 3) / 16 ≤ 5))
    (hi' : ¬ (9 ≤ (k - 3) / 16 ∧ (k - 3) / 16 ≤ 13)) : (Ow c k : sProp 𝕄) ⊢ Ow c (k + 1) := by
  unfold Ow
  rw [owed_skip c hk' (tal_none c k hk h0 hi hi')]

end Pieces

/-! ## Adding up -/

section Steps
variable (X : Dev nD → Vec F S4096x512 .bf16) (W : Dev nD → Vec F S512x2048 .bf16) (κ : Dev nD × Ck → ℕ) (ν : Key → ℕ)
variable (c : Dev nD) (r : Fin 8) {k : P F} {Q : PUnit.{1} → sProp (MT nD τ sig ℕ (Elt F) ℕ UU ℕ)}

theorem kSend_lt (p : Fin 2) (r : Fin 8) (t b : ℕ) (h : 3 + 16 * (7 * p.val + t + 1) ≤ b) : kSend p r t < b := by
  have := r.isLt; unfold kSend; omega
theorem kFree_lt (p : Fin 2) (r : Fin 8) (m b : ℕ) (h : 3 + 16 * (8 * p.val + m + 2) ≤ b) : kFree p r m < b := by
  have := r.isLt; unfold kFree; omega

theorem add_recv {s key : ℕ} (hs : s < 7) (hk : 3 + 16 * (s + 1) ≤ key) :
    PC X W κ ν ⊢ iprop(Ow c key -∗ A0 c r s -∗ (Ow c key -∗ B0 X W c r s -∗ wpC c k Q) -∗ wpC c (recv 0 r s k) Q) := by
  unfold A0 B0 Ph crS
  iintro #HPC HO ⟨⟨HT, HP, HC, HF, HK⟩, Hcr, Hst, H0, H6⟩ Hk
  iapply (wp_recv X W κ ν c 0 r hs (by omega) (kSend_lt 0 r s key (by simpa using hk))) $$ [HO HP HC Hcr]
  · isplitr; · iexact HPC
    isplitl [HO]; · iexact HO
    isplitl [HP]; · iexact HP
    isplitl [HC]; · iexact HC
    iexact Hcr
  iintro ⟨HO, HP, HC, H1, H2⟩
  iapply Hk $$ HO
  isplitl [HT HP HC HF HK]
  · isplitl [HT]; · iexact HT
    isplitl [HP]; · iexact HP
    isplitl [HC]; · iexact HC
    isplitl [HF]; · iexact HF
    iexact HK
  isplitl [H1]
  · iapply (show slotIs c (srcB 0 s) r (srcJ 0 s) (shr 0 s) (MV X W 0 r s c) ⊢ anySlot c .st r (par s) from slotIs_any c .st r (par s) _) $$ H1
  isplitl [H2]; · iexact H2
  isplitl [Hst]; · iexact Hst
  isplitl [H0]; · iexact H0
  iexact H6

/-- Adding a received block. -/
theorem wp_acc (s : Fin 7) (t : ℕ) (hst : s.val = t) (j : Fin 2) (v : FVec F S1x1x512x256 .bf16) (nw : Fin 8 → ℕ) (hnw : nw r = 0) {k : FVec F S512x256 .f32 → P F} :
    OutAt c (outF X W c nw) ⊢ iprop(slotIs c .rs r (par t) fullShare v -∗ anySlot c .st r j
      -∗ (OutAt c (outF X W c nw) -∗ slotIs c .rs r (par t) fullShare v
          -∗ slotIs c .st r j fullShare (stgP (accP (pT X W c r (chunkN 0 r t c.val)) v))
          -∗ wpC c (k (accP (pT X W c r (chunkN 0 r t c.val)) v)) Q)
      -∗ wpC c (acc c r s j k) Q) := by
  subst hst
  unfold acc
  iintro HO H1 H2 Hk
  iapply (wp_ldOut c (tileR 0 r s c) h_S512x256 (outF X W c nw)) $$ HO; iintro HO
  rw [show (oM.access (tileR 0 r s c)).read (Elt F) (outF X W c nw) = pT X W c r (chunkN 0 r s.val c.val) from
    (read_tile X W c (tileO_eq 0 r s c) _ nw).trans (by rw [hnw]; rfl)]
  iapply (wp_ldSlot c r .rs (par s.val) fullShare v) $$ H1; iintro H1
  iapply (wp_ldSlot_any c r .st j) $$ H2; iintro H2
  iapply (wp_stSlot c r .st j _) $$ H2; iintro H2
  iapply Hk $$ HO H1 H2

theorem add_acc (s : Fin 6) (nw : Fin 8 → ℕ) (hnw : nw r = 0) {k : FVec F S512x256 .f32 → P F} :
    OutAt c (outF X W c nw) ⊢ iprop(B0 X W c r s.val
      -∗ (OutAt c (outF X W c nw) -∗ C0 X W c r s.val -∗ wpC c (k (accP (pT X W c r (chunkN 0 r s.val c.val)) (MV X W 0 r s.val (wrtD r c)))) Q)
      -∗ wpC c (acc c r s.castSucc (par (s.val + 1)) k) Q) := by
  unfold B0 C0
  iintro HO ⟨HPh, Hs, H1, H2, H0, -⟩ Hk
  iapply (wp_acc X W c r s.castSucc s.val rfl (par (s.val + 1)) (MV X W 0 r s.val (wrtD r c)) nw hnw) $$ HO H1 H2
  iintro HO H1 H2
  iapply Hk $$ HO
  isplitl [HPh]; · iexact HPh
  isplitl [Hs]; · iexact Hs
  isplitl [H1]; · iapply (slotIs_any c .rs r (par s.val)) $$ H1
  isplitl [H2]; · iexact H2
  iexact H0

theorem add_free (s : Fin 6) {key : ℕ} (hkey : key = kFree 0 r s.val) :
    PC X W κ ν ⊢ iprop(Ow c key -∗ C0 X W c r s.val -∗ (Ow c (key + 1) -∗ D0 X W c r s.val -∗ wpC c k Q)
      -∗ wpC c ((if s.val < 5 then free c 0 r else id) k) Q) := by
  unfold C0 D0
  iintro #HPC HO ⟨HPh, Hs, H1, H2, H0⟩ Hk
  by_cases h : s.val < 5
  · rw [if_pos h, if_neg (by omega : ¬ s.val + 1 = 6), show min s.val 5 = s.val by omega, show min (s.val + 1) 5 = s.val + 1 by omega]
    unfold Ph
    icases HPh with ⟨HT, HP, HC, HF, HK⟩
    ihave HP := (Pos_rcv c 0 r (s.val + 1)) $$ HP
    icases HP with ⟨HP, -, #Hr⟩
    iapply (wp_free X W κ ν c 0 r h hkey) $$ [HO HF H1]
    · isplitr; · iexact HPC
      isplitl [HO]; · iexact HO
      isplitl [HF]; · iexact HF
      isplitl [H1]; · iexact H1
      rw [show s.val + 1 + 1 = s.val + 2 from rfl, par_two, show (s.val + 2) / 2 = s.val / 2 + 1 by omega]
      iexact Hr
    iintro ⟨HO, HF⟩
    iapply Hk $$ HO
    isplitl [HT HP HC HF HK]
    · isplitl [HT]; · iexact HT
      isplitl [HP]; · iexact HP
      isplitl [HC]; · iexact HC
      isplitl [HF]; · iexact HF
      iexact HK
    isplitl [Hs]; · iexact Hs
    isplitl [H2]; · iexact H2
    isplitl [H0]; · iexact H0
    iempintro
  · have h5 : s.val = 5 := by have := s.isLt; omega
    rw [if_neg h, if_pos (by omega : s.val + 1 = 6), show min (s.val + 1) 5 = min s.val 5 by omega]
    iapply Hk $$ [HO]
    · subst hkey
      have := r.isLt
      have h1 : kFree 0 r s.val = 3 + 16 * (8 * 0 + s.val + 1) + 4 * (r.val / 2) + r.val % 2 := rfl
      iapply (Ow_skip c (kFree 0 r s.val) (by omega) (by omega) (by omega) (by omega) (by omega)) $$ HO
    isplitl [HPh]; · iexact HPh
    isplitl [Hs]; · iexact Hs
    isplitl [H2]; · iexact H2
    isplitl [H0]; · iexact H0
    rw [show par s.val = 1 from by rw [h5]; rfl]
    iexact H1

theorem add_send_next (s : Fin 6) {key : ℕ} (hkey : key = kSend 0 r (s.val + 1)) :
    PC X W κ ν ⊢ iprop(Ow c key -∗ Ph c 0 r (s.val + 1) (s.val + 1) (min (s.val + 1) 5) s.val -∗ anySlot c .st r (par s.val)
    -∗ slotIs c .st r (par (s.val + 1)) fullShare (MV X W 0 r (s.val + 1) c) -∗ Dest c 0 r (s.val + 1)
    -∗ (if s.val + 1 = 6 then anySlot c .rs r 1 else emp)
    -∗ (Ow c (key + 1) -∗ A0 c r (s.val + 1) -∗ wpC c k Q) -∗ wpC c (send c 0 r (s.val + 1) k) Q) := by
  unfold Ph A0 crS
  iintro #HPC HO ⟨HT, HP, HC, HF, HK⟩ Hs H2 HD H6 Hk
  ihave HP := (Pos_snd c 0 r (s.val + 1)) $$ HP
  icases HP with ⟨HP, #Hr⟩
  iapply (wp_send X W κ ν c 0 r (by omega) hkey) $$ [HO HT H2 HD]
  · isplitr; · iexact HPC
    isplitl [HO]; · iexact HO
    isplitl [HT]; · iexact HT
    isplitr; · iexact Hr
    isplitl [H2]; · iexact H2
    iexact HD
  iintro ⟨HO, HT, Hcr⟩
  iapply Hk $$ HO
  rw [if_neg (by omega : ¬ s.val + 1 = 0), show s.val + 1 + 1 = s.val + 2 from rfl, par_two]
  unfold Ph
  isplitl [HT HP HC HF HK]
  · isplitl [HT]; · iexact HT
    isplitl [HP]; · iexact HP
    isplitl [HC]; · iexact HC
    isplitl [HF]; · iexact HF
    iexact HK
  isplitl [Hcr]; · iexact Hcr
  isplitl [Hs]; · iexact Hs
  isplitr; · iempintro
  iexact H6

theorem add_send (s : Fin 6) {key : ℕ} (hkey : key = kSend 0 r (s.val + 1)) :
    PC X W κ ν ⊢ iprop(Ow c key -∗ D0 X W c r s.val -∗ (Ow c (key + 1) -∗ A0 c r (s.val + 1) -∗ wpC c k Q)
      -∗ wpC c ((if 0 < s.val then take 0 r else id) (send c 0 r (s.val + 1) k)) Q) := by
  have hs := s.isLt
  have hr := r.isLt
  have hkk : key = 3 + 16 * (7 * 0 + (s.val + 1)) + 4 * (r.val / 2) + 2 + r.val % 2 := hkey
  unfold D0
  by_cases h : 0 < s.val
  · rw [if_pos h]
    unfold Ph
    iintro #HPC HO ⟨HPh, Hs, H2, H0, H6⟩ Hk
    icases HPh with ⟨HT, HP, HC, HF, HK⟩
    iapply (wp_take X W κ ν c 0 r (m := s.val - 1) (by omega) (by omega) (kFree_lt 0 r _ key (by rw [hkk]; simp only [Fin.val_zero]; omega))) $$ [HO HK]
    · isplitr; · iexact HPC
      isplitl [HO]; · iexact HO
      iexact HK
    rw [show s.val - 1 + 1 = s.val by omega, show s.val - 1 + 2 = s.val + 1 by omega]
    iintro ⟨HO, HK, HD⟩
    iapply (add_send_next X W κ ν c r s hkey) $$ HPC HO [HT HP HC HF HK] Hs H2 HD H6 Hk
    unfold Ph
    isplitl [HT]; · iexact HT
    isplitl [HP]; · iexact HP
    isplitl [HC]; · iexact HC
    isplitl [HF]; · iexact HF
    iexact HK
  · have h0 : s.val = 0 := by omega
    rw [if_neg h, if_pos h0, id_eq]
    iintro #HPC HO ⟨HPh, Hs, H2, H0, H6⟩ Hk
    iapply (add_send_next X W κ ν c r s hkey) $$ HPC HO [HPh] Hs H2 [H0] H6 Hk
    · rw [show s.val - 1 = s.val by omega]; iexact HPh
    · rw [h0]; iexact H0

/-! ## The whole sum -/

theorem sum_acc (nw : Fin 8 → ℕ) (hnw : nw r = 0) {k : FVec F S512x256 .f32 → P F} :
    OutAt c (outF X W c nw) ⊢ iprop(B0 X W c r 6 -∗ (OutAt c (outF X W c nw) -∗ G0 X W c r -∗ wpC c (k (sumT X W c r)) Q)
      -∗ wpC c (acc c r 6 0 k) Q) := by
  unfold B0 G0 F0
  rw [if_neg (by decide : ¬ (6 : ℕ) = 0), if_pos rfl]
  iintro HO ⟨HPh, Hs, H1, H2, -, H6⟩ Hk
  ihave Hs := (Entails.of_eq rfl : anySlot c .st r (par 6) ⊢ anySlot (F := F) c .st r 0) $$ Hs
  iapply (wp_acc X W c r 6 6 rfl 0 (MV X W 0 r 6 (wrtD r c)) nw hnw) $$ HO H1 Hs
  iintro HO H1 Hs
  iapply Hk $$ HO
  isplitl [HPh H1 H2 H6]
  · isplitl [HPh]; · iexact HPh
    isplitl [H2]; · iexact H2
    isplitl [H1]
    · iapply (show slotIs c .rs r (par 6) fullShare (MV X W 0 r 6 (wrtD r c)) ⊢ anySlot c .rs r 0 from slotIs_any c .rs r 0 _) $$ H1
    iexact H6
  iexact Hs

theorem sum_send {key : ℕ} (hkey : key = kSend 1 r 0) :
    PC X W κ ν ⊢ iprop(Ow c key -∗ G0 X W c r -∗ Z1 c r -∗ (Ow c (key + 1) -∗ F0 c r -∗ A1 X W c r 0 -∗ wpC c k Q)
      -∗ wpC c (send c 1 r 0 k) Q) := by
  unfold G0 Z1 A1 Ph crS
  iintro #HPC HO ⟨HF0, Hs⟩ ⟨⟨HT, HP, HC, HF, HK⟩, HD, HD1⟩ Hk
  ihave HP := (Pos_snd c 1 r 0) $$ HP
  icases HP with ⟨HP, #Hr⟩
  iapply (wp_send X W κ ν c 1 r (by omega) hkey) $$ [HO HT Hs HD]
  · isplitr; · iexact HPC
    isplitl [HO]; · iexact HO
    isplitl [HT]; · iexact HT
    isplitr; · iexact Hr
    isplitl [Hs]; · iexact Hs
    iexact HD
  iintro ⟨HO, HT, Hcr⟩
  iapply Hk $$ HO HF0
  rw [if_pos rfl]
  isplitl [HT HP HC HF HK]
  · isplitl [HT]; · iexact HT
    isplitl [HP]; · iexact HP
    isplitl [HC]; · iexact HC
    isplitl [HF]; · iexact HF
    iexact HK
  isplitl [Hcr]; · iexact Hcr
  iexact HD1

theorem sum_put (nw : Fin 8 → ℕ) (hnw : nw r = 0) :
    OutAt c (outF X W c nw) ⊢ iprop((OutAt c (outF X W c (Function.update nw r 1)) -∗ wpC c k Q)
      -∗ wpC c (ldOut (tileR 0 r 6 c) h_S512x256 fun _ => stOut (tileR 0 r 6 c) h_S512x256 (sumT X W c r) k) Q) := by
  iintro HO Hk
  iapply (wp_ldOut c (tileR 0 r 6 c) h_S512x256 (outF X W c nw)) $$ HO; iintro HO
  iapply (wp_stOut c (tileR 0 r 6 c) h_S512x256 _ (outF X W c nw)) $$ HO; iintro HO
  rw [show (oM.access (tileR 0 r 6 c)).write (Elt F) (outF X W c nw) (sumT X W c r) Finset.univ = outF X W c (Function.update nw r 1) from
    (write_tile X W c (tileO_eq 0 r 6 c) _ nw _ (by rw [hnw]; exact gR_one X W c r)).trans (by rw [hnw])]
  iapply Hk $$ HO

/-! ## Handing round -/

theorem srcB_one {t : ℕ} (h : t ≠ 0) : srcB 1 t = .ag := by unfold srcB; rw [if_neg (by decide), if_neg h]
theorem srcJ_one {t : ℕ} (h : t ≠ 0) : srcJ 1 t = par (t + 1) := by unfold srcJ; rw [if_neg (by decide), if_neg h]
theorem shr_one {t : ℕ} (h : t ≠ 0) : shr 1 t = fullShare.left := by unfold shr; rw [if_neg (fun h' => h'.elim (by decide) h)]

theorem pass_rest (s : ℕ) :
    iprop(slotIs c (srcB 1 s) r (srcJ 1 s) (shr 1 s) (MV X W 1 r s c)
        ∗ (if s = 0 then Dest c 1 r 1 else iprop(anySlot c .st r 0 ∗ slotIs c .ag r (par (s + 1)) fullShare.right (MV X W 1 r s c))))
      ⊢ iprop(anySlot c .st r 0 ∗ (if s = 0 then Dest c 1 r 1 else anySlot c .ag r (par (s + 1)))) := by
  by_cases h : s = 0
  · rw [if_pos h, if_pos h, h]
    iintro ⟨H1, H0⟩
    isplitl [H1]; · iapply (slotIs_any c .st r 0 (MV X W 1 r 0 c)); iexact H1
    iexact H0
  · rw [if_neg h, if_neg h, srcB_one h, srcJ_one h, shr_one h]
    iintro ⟨H1, Hs, H3⟩
    isplitl [Hs]; · iexact Hs
    iapply (slot_join c r .ag (par (s + 1)))
    isplitl [H1]; · iexact H1
    iexact H3

theorem pass_recv {s key : ℕ} (hs : s < 7) (hk : 3 + 16 * (7 + s + 1) ≤ key) :
    PC X W κ ν ⊢ iprop(Ow c key -∗ A1 X W c r s -∗ (Ow c key -∗ B1 X W c r s -∗ wpC c k Q) -∗ wpC c (recv 1 r s k) Q) := by
  unfold A1 B1 Ph crS
  iintro #HPC HO ⟨⟨HT, HP, HC, HF, HK⟩, Hcr, H0⟩ Hk
  iapply (wp_recv X W κ ν c 1 r hs (by omega) (kSend_lt 1 r s key (by simpa using hk))) $$ [HO HP HC Hcr]
  · isplitr; · iexact HPC
    isplitl [HO]; · iexact HO
    isplitl [HP]; · iexact HP
    isplitl [HC]; · iexact HC
    iexact Hcr
  iintro ⟨HO, HP, HC, H1, H2⟩
  ihave H := (pass_rest X W c r s) $$ [H1 H0]
  · isplitl [H1]; · iexact H1
    iexact H0
  icases H with ⟨Hs, H0⟩
  iapply Hk $$ HO
  isplitl [HT HP HC HF HK]
  · isplitl [HT]; · iexact HT
    isplitl [HP]; · iexact HP
    isplitl [HC]; · iexact HC
    isplitl [HF]; · iexact HF
    iexact HK
  isplitl [Hs]; · iexact Hs
  isplitl [H2]; · iexact H2
  iexact H0

theorem pass_free {s key : ℕ} (hs : 0 < s) (hs' : s < 6) (hkey : key = kFree 1 r (s - 1)) :
    PC X W κ ν ⊢ iprop(Ow c key -∗ B1 X W c r s -∗ (Ow c (key + 1) -∗ C1 X W c r s -∗ wpC c k Q)
      -∗ wpC c (free c 1 r k) Q) := by
  unfold B1 C1
  rw [if_neg (by omega : ¬ s = 0), if_neg (by omega : ¬ s = 0), if_neg (by omega : ¬ s = 6), show min s 5 = s by omega]
  unfold Ph
  iintro #HPC HO ⟨⟨HT, HP, HC, HF, HK⟩, Hs, H1, H2⟩ Hk
  ihave HP := (Pos_rcv c 1 r (s + 1)) $$ HP
  icases HP with ⟨HP, #Hr, -⟩
  obtain ⟨m, rfl⟩ : ∃ m, s = m + 1 := ⟨s - 1, by omega⟩
  rw [show m + 1 + 1 = m + 2 from rfl, par_two, show (m + 2) / 2 = m / 2 + 1 by omega, show m + 1 - 1 = m from rfl]
  iapply (wp_free X W κ ν c 1 r (m := m) (by omega) hkey) $$ [HO HF H2]
  · isplitr; · iexact HPC
    isplitl [HO]; · iexact HO
    isplitl [HF]; · iexact HF
    isplitl [H2]; · iexact H2
    iexact Hr
  iintro ⟨HO, HF⟩
  iapply Hk $$ HO
  isplitl [HT HP HC HF HK]
  · isplitl [HT]; · iexact HT
    isplitl [HP]; · iexact HP
    isplitl [HC]; · iexact HC
    isplitl [HF]; · iexact HF
    iexact HK
  isplitl [Hs]; · iexact Hs
  isplitl [H1]; · iexact H1
  isplitr <;> iempintro

theorem pass_keep0 : B1 X W c r 0 ⊢ C1 X W c r 0 := by
  unfold B1 C1
  rw [if_pos rfl, if_pos rfl, if_neg (by decide : ¬ (0 : ℕ) = 6)]
  iintro ⟨HPh, Hs, H1, H2⟩
  isplitl [HPh]; · iexact HPh
  isplitl [Hs]; · iexact Hs
  isplitl [H1]; · iexact H1
  isplitl [H2]; · iexact H2
  iempintro

theorem pass_keep6 : B1 X W c r 6 ⊢ D1 X W c r 6 := by
  unfold B1 D1 F1
  rw [if_neg (by decide : ¬ (6 : ℕ) = 0), if_pos rfl]
  iintro ⟨HPh, Hs, H1, H2⟩
  isplitl [HPh]; · iexact HPh
  isplitl [Hs]; · iexact Hs
  isplitl [H1]; · iexact H1
  iexact H2

theorem pass_send_next {s key : ℕ} (hs : s < 6) (hkey : key = kSend 1 r (s + 1)) :
    PC X W κ ν ⊢ iprop(Ow c key -∗ Ph c 1 r (s + 1) (s + 1) s s -∗ anySlot c .st r 0
    -∗ slotIs c .ag r (par s) fullShare (MV X W 1 r s (wrtD r c)) -∗ Dest c 1 r (s + 1)
    -∗ (Ow c (key + 1) -∗ A1 X W c r (s + 1) -∗ wpC c k Q) -∗ wpC c (send c 1 r (s + 1) k) Q) := by
  unfold Ph A1 crS
  iintro #HPC HO ⟨HT, HP, HC, HF, HK⟩ Hs H2 HD Hk
  ihave HP := (Pos_snd c 1 r (s + 1)) $$ HP
  icases HP with ⟨HP, #Hr⟩
  ihave H2 := (slot_split c r .ag (par s) _) $$ H2
  icases H2 with ⟨H2, H3⟩
  iapply (wp_send X W κ ν c 1 r (by omega) hkey) $$ [HO HT H2 HD]
  · isplitr; · iexact HPC
    isplitl [HO]; · iexact HO
    isplitl [HT]; · iexact HT
    isplitr; · iexact Hr
    isplitl [H2]
    · rw [srcB_one (Nat.succ_ne_zero s), srcJ_one (Nat.succ_ne_zero s), shr_one (Nat.succ_ne_zero s), show s + 1 + 1 = s + 2 from rfl, par_two, MV_one_succ]
      iexact H2
    iexact HD
  iintro ⟨HO, HT, Hcr⟩
  iapply Hk $$ HO
  rw [if_neg (by omega : ¬ s + 1 = 0), show s + 1 + 1 = s + 2 from rfl, par_two, MV_one_succ, show s + 1 - 1 = s from rfl]
  unfold Ph
  isplitl [HT HP HC HF HK]
  · isplitl [HT]; · iexact HT
    isplitl [HP]; · iexact HP
    isplitl [HC]; · iexact HC
    isplitl [HF]; · iexact HF
    iexact HK
  isplitl [Hcr]; · iexact Hcr
  isplitl [Hs]; · iexact Hs
  iexact H3

theorem pass_send {s key : ℕ} (hs : s < 6) (hkey : key = kSend 1 r (s + 1)) :
    PC X W κ ν ⊢ iprop(Ow c key -∗ C1 X W c r s -∗ (Ow c (key + 1) -∗ D1 X W c r s -∗ wpC c k Q)
      -∗ wpC c ((if 0 < s then take 1 r else id) (send c 1 r (s + 1) k)) Q) := by
  have hr := r.isLt
  have hkk : key = 3 + 16 * (7 * 1 + (s + 1)) + 4 * (r.val / 2) + 2 + r.val % 2 := hkey
  unfold C1 D1
  rw [if_neg (by omega : ¬ s = 6), if_neg (by omega : ¬ s = 6), show min s 5 = s by omega]
  by_cases h : 0 < s
  · rw [if_pos h]
    unfold Ph
    iintro #HPC HO ⟨HPh, Hs, H2, H0, -⟩ Hk
    icases HPh with ⟨HT, HP, HC, HF, HK⟩
    iapply (wp_take X W κ ν c 1 r (key := key) (m := s - 1) (by omega) (by omega) (by rw [hkk, show kFree 1 r (s - 1) = 3 + 16 * (8 * 1 + (s - 1) + 1) + 4 * (r.val / 2) + r.val % 2 from rfl]; omega)) $$ [HO HK]
    · isplitr; · iexact HPC
      isplitl [HO]; · iexact HO
      iexact HK
    rw [show s - 1 + 1 = s by omega, show s - 1 + 2 = s + 1 by omega]
    iintro ⟨HO, HK, HD⟩
    iapply (pass_send_next X W κ ν c r hs hkey) $$ HPC HO [HT HP HC HF HK] Hs H2 HD Hk
    unfold Ph
    isplitl [HT]; · iexact HT
    isplitl [HP]; · iexact HP
    isplitl [HC]; · iexact HC
    isplitl [HF]; · iexact HF
    iexact HK
  · have h0 : s = 0 := by omega
    subst h0
    rw [if_neg h, if_pos rfl, id_eq]
    iintro #HPC HO ⟨HPh, Hs, H2, H0, -⟩ Hk
    iapply (pass_send_next X W κ ν c r hs hkey) $$ HPC HO HPh Hs H2 H0 Hk

/-- Entering a received block into the result. -/
theorem wp_put (s : Fin 7) (q : PosShare TreeShare) (nw : Fin 8 → ℕ) (hnw : nw r = s.val + 1) :
    OutAt c (outF X W c nw) ⊢ iprop(slotIs c .ag r (par s.val) q (MV X W 1 r s.val (wrtD r c))
      -∗ (OutAt c (outF X W c (Function.update nw r (s.val + 2))) -∗ slotIs c .ag r (par s.val) q (MV X W 1 r s.val (wrtD r c)) -∗ wpC c k Q)
      -∗ wpC c (put c r s k) Q) := by
  unfold put
  iintro HO H1 Hk
  iapply (wp_ldSlot c r .ag (par s.val) q _) $$ H1; iintro H1
  iapply (wp_ldOut c (tileR 1 r s c) h_S512x256 (outF X W c nw)) $$ HO; iintro HO
  iapply (wp_stOut c (tileR 1 r s c) h_S512x256 _ (outF X W c nw)) $$ HO; iintro HO
  rw [show (oM.access (tileR 1 r s c)).write (Elt F) (outF X W c nw) (outP (MV X W 1 r s.val (wrtD r c))) Finset.univ
      = outF X W c (Function.update nw r (s.val + 2)) from
    (write_tile X W c (tileO_eq 1 r s c) _ nw _ (by rw [hnw]; exact gR_succ X W c r s.val)).trans (by rw [hnw])]
  iapply Hk $$ HO H1

theorem pass_put (s : Fin 7) (nw : Fin 8 → ℕ) (hnw : nw r = s.val + 1) :
    OutAt c (outF X W c nw) ⊢ iprop(D1 X W c r s.val
      -∗ (OutAt c (outF X W c (Function.update nw r (s.val + 2))) -∗ D1 X W c r s.val -∗ wpC c k Q) -∗ wpC c (put c r s k) Q) := by
  unfold D1
  by_cases h : s.val = 6
  · rw [if_pos h]
    unfold F1
    iintro HO ⟨HPh, Hs, H1, H2⟩ Hk
    iapply (wp_put X W c r s fullShare nw hnw) $$ HO [H1]
    · rw [h]; iexact H1
    iintro HO H1
    iapply Hk $$ HO
    isplitl [HPh]; · iexact HPh
    isplitl [Hs]; · iexact Hs
    isplitl [H1]; · rw [h]; iexact H1
    iexact H2
  · rw [if_neg h]
    unfold A1
    rw [if_neg (by omega : ¬ s.val + 1 = 0), show s.val + 1 + 1 = s.val + 2 from rfl, par_two, MV_one_succ]
    iintro HO ⟨HPh, Hcr, Hs, H1⟩ Hk
    iapply (wp_put X W c r s _ nw hnw) $$ HO H1
    iintro HO H1
    iapply Hk $$ HO
    isplitl [HPh]; · iexact HPh
    isplitl [Hcr]; · iexact Hcr
    isplitl [Hs]; · iexact Hs
    iexact H1

end Steps

end Cert.KernelIdeal.Hand

end
end
-- ==== Proof.KernelIdeal.Loops.lean ====
/-
# The loops

A step of the body works on four pairs of rings in turn; the loops run six steps of adding up, one that completes the
sums, and seven of handing round.
-/
module

public import proofs.«01_k».proof.Proof.KernelIdeal.Rings

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (X : Dev nD → Vec F S4096x512 .bf16) (W : Dev nD → Vec F S512x2048 .bf16) (κ : Dev nD × Ck → ℕ) (ν : Key → ℕ)
variable (c : Dev nD)

/-- A part of the body that leads from one state to another, whatever follows it. -/
def Runs (A B : sProp 𝕄) (g : P F → P F) : Prop :=
  ∀ (k : P F) (Q : PUnit.{1} → sProp 𝕄), PC X W κ ν ⊢ iprop(A -∗ (B -∗ wpC c k Q) -∗ wpC c (g k) Q)

variable {X W κ ν c} in
theorem Runs.comp {A B C : sProp 𝕄} {g h : P F → P F} (H : Runs X W κ ν c A B g) (H' : Runs X W κ ν c B C h) :
    Runs X W κ ν c A C (fun k => g (h k)) := fun k Q => by
  iintro #HPC HA Hk
  iapply (H _ Q) $$ HPC HA
  iintro HB
  iapply (H' _ Q) $$ HPC HB Hk

/-- For each pair of rings. -/
def All (Φ : Fin 4 → sProp 𝕄) : sProp 𝕄 := iprop(Φ 0 ∗ Φ 1 ∗ Φ 2 ∗ Φ 3)

variable {X W κ ν c} in
/-- A step: the four pairs in turn. -/
theorem four {g : Fin 4 → P F → P F} {I : ℕ → sProp 𝕄} {Φ Ψ : Fin 4 → sProp 𝕄}
    (h : ∀ q : Fin 4, Runs X W κ ν c iprop(I q.val ∗ Φ q) iprop(I (q.val + 1) ∗ Ψ q) (g q)) :
    Runs X W κ ν c iprop(I 0 ∗ All Φ) iprop(I 4 ∗ All Ψ) (fun k => List.foldr g k [0, 1, 2, 3]) := fun k Q => by
  have h0 : Runs X W κ ν c iprop(I 0 ∗ Φ 0) iprop(I 1 ∗ Ψ 0) (g 0) := h 0
  have h1 : Runs X W κ ν c iprop(I 1 ∗ Φ 1) iprop(I 2 ∗ Ψ 1) (g 1) := h 1
  have h2 : Runs X W κ ν c iprop(I 2 ∗ Φ 2) iprop(I 3 ∗ Ψ 2) (g 2) := h 2
  have h3 : Runs X W κ ν c iprop(I 3 ∗ Φ 3) iprop(I 4 ∗ Ψ 3) (g 3) := h 3
  unfold All
  iintro #HPC ⟨HI, H0, H1, H2, H3⟩ Hk
  iapply (h0 _ Q) $$ HPC [HI H0]
  · isplitl [HI]; · iexact HI
    iexact H0
  iintro ⟨HI, H0⟩
  iapply (h1 _ Q) $$ HPC [HI H1]
  · isplitl [HI]; · iexact HI
    iexact H1
  iintro ⟨HI, H1⟩
  iapply (h2 _ Q) $$ HPC [HI H2]
  · isplitl [HI]; · iexact HI
    iexact H2
  iintro ⟨HI, H2⟩
  iapply (h3 _ Q) $$ HPC [HI H3]
  · isplitl [HI]; · iexact HI
    iexact H3
  iintro ⟨HI, H3⟩
  iapply Hk
  isplitl [HI]; · iexact HI
  isplitl [H0]; · iexact H0
  isplitl [H1]; · iexact H1
  isplitl [H2]; · iexact H2
  iexact H3

/-- The number of tiles each ring has written, in the middle of a step. -/
def nwAt (s q : ℕ) : Fin 8 → ℕ := fun r => s + if r.val / 2 < q then 1 else 0

theorem nwAt_zero (s : ℕ) : nwAt s 0 = fun _ => s := funext fun r => by unfold nwAt; rw [if_neg (by omega)]; rfl
theorem nwAt_four (s : ℕ) : nwAt s 4 = nwAt (s + 1) 0 := funext fun r => by
  unfold nwAt; rw [if_pos (by have := r.isLt; omega), if_neg (by omega)]
theorem nwAt_ev (s : ℕ) (q : Fin 4) : nwAt s q.val (ev q) = s := by
  unfold nwAt; rw [if_neg (by show ¬ 2 * q.val / 2 < q.val; omega)]; rfl
theorem nwAt_od (s n : ℕ) (q : Fin 4) : Function.update (nwAt s q.val) (ev q) n (od q) = s := by
  rw [Function.update_of_ne (fun h => absurd (congrArg Fin.val h) (by show ¬ 2 * q.val + 1 = 2 * q.val; omega))]
  unfold nwAt; rw [if_neg (by show ¬ (2 * q.val + 1) / 2 < q.val; omega)]; rfl
theorem nwAt_od' (s : ℕ) (q : Fin 4) : nwAt s q.val (od q) = s := by
  unfold nwAt; rw [if_neg (by show ¬ (2 * q.val + 1) / 2 < q.val; omega)]; rfl
theorem nwAt_succ (s : ℕ) (q : Fin 4) : Function.update (Function.update (nwAt s q.val) (ev q) (s + 1)) (od q) (s + 1) = nwAt s (q.val + 1) := by
  funext r
  by_cases h1 : r = od q
  · subst h1; rw [Function.update_self]; unfold nwAt; rw [if_pos (by show (2 * q.val + 1) / 2 < q.val + 1; omega)]
  · rw [Function.update_of_ne h1]
    by_cases h2 : r = ev q
    · subst h2; rw [Function.update_self]; unfold nwAt; rw [if_pos (by show 2 * q.val / 2 < q.val + 1; omega)]
    · rw [Function.update_of_ne h2]
      have h3 : r.val ≠ 2 * q.val + 1 := fun h => h1 (Fin.ext h)
      have h4 : r.val ≠ 2 * q.val := fun h => h2 (Fin.ext h)
      unfold nwAt
      by_cases h5 : r.val / 2 < q.val
      · rw [if_pos h5, if_pos (by omega)]
      · rw [if_neg h5, if_neg (by omega)]

theorem kSend_ev (p : Fin 2) (q : Fin 4) (t : ℕ) : kSend p (ev q) t = 3 + 16 * (7 * p.val + t) + 4 * q.val + 2 := by
  unfold kSend ev; simp only; omega
theorem kSend_od (p : Fin 2) (q : Fin 4) (t : ℕ) : kSend p (od q) t = 3 + 16 * (7 * p.val + t) + 4 * q.val + 3 := by
  unfold kSend od; simp only; omega
theorem kFree_ev (p : Fin 2) (q : Fin 4) (t : ℕ) : kFree p (ev q) t = 3 + 16 * (8 * p.val + t + 1) + 4 * q.val := by
  unfold kFree ev; simp only; omega
theorem kFree_od (p : Fin 2) (q : Fin 4) (t : ℕ) : kFree p (od q) t = 3 + 16 * (8 * p.val + t + 1) + 4 * q.val + 1 := by
  unfold kFree od; simp only; omega

/-! ## Adding up -/

theorem addPair_runs (s : Fin 6) (q : Fin 4) :
    Runs X W κ ν c
      iprop((Ow c (3 + 16 * (s.val + 1) + 4 * q.val) ∗ OutAt c (outF X W c (nwAt 0 0))) ∗ A0 c (ev q) s.val ∗ A0 c (od q) s.val)
      iprop((Ow c (3 + 16 * (s.val + 1) + 4 * (q.val + 1)) ∗ OutAt c (outF X W c (nwAt 0 0))) ∗ A0 c (ev q) (s.val + 1) ∗ A0 c (od q) (s.val + 1))
      (addPair c s q) := fun k Q => by
  have hs := s.isLt
  have hq := q.isLt
  unfold addPair
  iintro #HPC ⟨⟨HO, Hout⟩, He, Hd⟩ Hk
  iapply (add_recv X W κ ν c (ev q) (s := s.val) (key := 3 + 16 * (s.val + 1) + 4 * q.val) (by omega) (by omega)) $$ HPC HO He
  iintro HO He
  iapply (add_recv X W κ ν c (od q) (s := s.val) (key := 3 + 16 * (s.val + 1) + 4 * q.val) (by omega) (by omega)) $$ HPC HO Hd
  iintro HO Hd
  iapply (add_acc X W c (ev q) s (nwAt 0 0) (by rw [nwAt_zero])) $$ Hout He
  iintro Hout He
  iapply (add_free X W κ ν c (ev q) s (key := 3 + 16 * (s.val + 1) + 4 * q.val) (by rw [kFree_ev]; simp only [Fin.val_zero]; omega)) $$ HPC HO He
  iintro HO He
  iapply (add_acc X W c (od q) s (nwAt 0 0) (by rw [nwAt_zero])) $$ Hout Hd
  iintro Hout Hd
  iapply (add_free X W κ ν c (od q) s (key := 3 + 16 * (s.val + 1) + 4 * q.val + 1) (by rw [kFree_od]; simp only [Fin.val_zero]; omega)) $$ HPC HO Hd
  iintro HO Hd
  iapply (add_send X W κ ν c (ev q) s (key := 3 + 16 * (s.val + 1) + 4 * q.val + 1 + 1) (by rw [kSend_ev]; simp only [Fin.val_zero]; omega)) $$ HPC HO He
  iintro HO He
  iapply (add_send X W κ ν c (od q) s (key := 3 + 16 * (s.val + 1) + 4 * q.val + 1 + 1 + 1) (by rw [kSend_od]; simp only [Fin.val_zero]; omega)) $$ HPC HO Hd
  iintro HO Hd
  iapply Hk
  isplitl [HO Hout]
  · isplitl [HO]; · (rw [show 3 + 16 * (s.val + 1) + 4 * (q.val + 1) = 3 + 16 * (s.val + 1) + 4 * q.val + 1 + 1 + 1 + 1 by omega]; iexact HO)
    iexact Hout
  isplitl [He]; · iexact He
  iexact Hd

/-- The state before step `s` of adding up. -/
def J0 (s : ℕ) : sProp 𝕄 :=
  iprop((Ow c (3 + 16 * (s + 1)) ∗ OutAt c (outF X W c (nwAt 0 0))) ∗ All fun q => iprop(A0 c (ev q) s ∗ A0 c (od q) s))

theorem add_runs (s : Fin 6) : Runs X W κ ν c (J0 X W c s.val) (J0 X W c (s.val + 1)) (fun k => List.foldr (addPair c s) k [0, 1, 2, 3]) :=
  four (I := fun q => iprop(Ow c (3 + 16 * (s.val + 1) + 4 * q) ∗ OutAt c (outF X W c (nwAt 0 0)))) fun q => addPair_runs X W κ ν c s q

theorem adds_run : Runs X W κ ν c (J0 X W c 0) (J0 X W c 6) (fun k => List.foldr (fun s k => List.foldr (addPair c s) k [0, 1, 2, 3]) k [0, 1, 2, 3, 4, 5]) :=
  (add_runs X W κ ν c 0).comp <| (add_runs X W κ ν c 1).comp <| (add_runs X W κ ν c 2).comp <| (add_runs X W κ ν c 3).comp <|
    (add_runs X W κ ν c 4).comp <| add_runs X W κ ν c 5

/-! ## The whole sums -/

theorem sumPair_runs (q : Fin 4) :
    Runs X W κ ν c
      iprop((Ow c (3 + 16 * 7 + 4 * q.val) ∗ OutAt c (outF X W c (nwAt 0 q.val))) ∗ (A0 c (ev q) 6 ∗ A0 c (od q) 6) ∗ Z1 c (ev q) ∗ Z1 c (od q))
      iprop((Ow c (3 + 16 * 7 + 4 * (q.val + 1)) ∗ OutAt c (outF X W c (nwAt 0 (q.val + 1))))
        ∗ (F0 c (ev q) ∗ F0 c (od q)) ∗ A1 X W c (ev q) 0 ∗ A1 X W c (od q) 0)
      (sumPair c q) := fun k Q => by
  have hq := q.isLt
  unfold sumPair
  iintro #HPC ⟨⟨HO, Hout⟩, ⟨He, Hd⟩, Hze, Hzd⟩ Hk
  iapply (add_recv X W κ ν c (ev q) (s := 6) (key := 3 + 16 * 7 + 4 * q.val) (by omega) (by omega)) $$ HPC HO He
  iintro HO He
  iapply (add_recv X W κ ν c (od q) (s := 6) (key := 3 + 16 * 7 + 4 * q.val) (by omega) (by omega)) $$ HPC HO Hd
  iintro HO Hd
  iapply (sum_acc X W c (ev q) (nwAt 0 q.val) (nwAt_ev 0 q)) $$ Hout He
  iintro Hout He
  iapply (sum_acc X W c (od q) (nwAt 0 q.val) (nwAt_od' 0 q)) $$ Hout Hd
  iintro Hout Hd
  ihave HO := (Ow_skip c (3 + 16 * 7 + 4 * q.val) (by omega) (by omega) (by omega) (by omega) (by omega)) $$ HO
  ihave HO := (Ow_skip c (3 + 16 * 7 + 4 * q.val + 1) (by omega) (by omega) (by omega) (by omega) (by omega)) $$ HO
  iapply (sum_send X W κ ν c (ev q) (key := 3 + 16 * 7 + 4 * q.val + 1 + 1) (by rw [kSend_ev]; simp only [Fin.val_one])) $$ HPC HO He Hze
  iintro HO HFe He
  iapply (sum_send X W κ ν c (od q) (key := 3 + 16 * 7 + 4 * q.val + 1 + 1 + 1) (by rw [kSend_od]; simp only [Fin.val_one])) $$ HPC HO Hd Hzd
  iintro HO HFd Hd
  iapply (sum_put X W c (ev q) (nwAt 0 q.val) (nwAt_ev 0 q)) $$ Hout
  iintro Hout
  iapply (sum_put X W c (od q) _ (nwAt_od 0 1 q)) $$ Hout
  iintro Hout
  rw [nwAt_succ 0 q]
  iapply Hk
  isplitl [HO Hout]
  · isplitl [HO]; · (rw [show 3 + 16 * 7 + 4 * (q.val + 1) = 3 + 16 * 7 + 4 * q.val + 1 + 1 + 1 + 1 by omega]; iexact HO)
    iexact Hout
  isplitl [HFe HFd]
  · isplitl [HFe]; · iexact HFe
    iexact HFd
  isplitl [He]; · iexact He
  iexact Hd

theorem sums_run :
    Runs X W κ ν c
      iprop((Ow c (3 + 16 * 7) ∗ OutAt c (outF X W c (nwAt 0 0)))
        ∗ All fun q => iprop((A0 c (ev q) 6 ∗ A0 c (od q) 6) ∗ Z1 c (ev q) ∗ Z1 c (od q)))
      iprop((Ow c (3 + 16 * 8) ∗ OutAt c (outF X W c (nwAt 0 4)))
        ∗ All fun q => iprop((F0 c (ev q) ∗ F0 c (od q)) ∗ A1 X W c (ev q) 0 ∗ A1 X W c (od q) 0))
      (fun k => List.foldr (sumPair c) k [0, 1, 2, 3]) :=
  four (I := fun q => iprop(Ow c (3 + 16 * 7 + 4 * q) ∗ OutAt c (outF X W c (nwAt 0 q)))) fun q => sumPair_runs X W κ ν c q

/-! ## Handing round -/

/-- The place before pair `q` of step `s` of handing round. -/
def kP (s q : ℕ) : ℕ := min (3 + 16 * (8 + s) + 4 * q) 227

theorem passPair_head (s : Fin 7) (q : Fin 4) :
    Runs X W κ ν c
      iprop(Ow c (kP s.val q.val) ∗ B1 X W c (ev q) s.val ∗ B1 X W c (od q) s.val)
      iprop(Ow c (kP s.val (q.val + 1)) ∗ D1 X W c (ev q) s.val ∗ D1 X W c (od q) s.val)
      (fun k => (if 0 < s.val ∧ s.val < 6 then fun k => free c 1 (ev q) (free c 1 (od q) k) else id) <|
        (if s.val < 6 then fun k => (if 0 < s.val then take 1 (ev q) else id) <| send c 1 (ev q) (s.val + 1) <|
          (if 0 < s.val then take 1 (od q) else id) <| send c 1 (od q) (s.val + 1) k else id) k) := fun k Q => by
  have hs := s.isLt
  have hq := q.isLt
  have tail (h6 : s.val < 6) : PC X W κ ν ⊢ iprop(iprop(Ow c (3 + 16 * (8 + s.val) + 4 * q.val + 2) ∗ C1 X W c (ev q) s.val ∗ C1 X W c (od q) s.val)
      -∗ (iprop(Ow c (kP s.val (q.val + 1)) ∗ D1 X W c (ev q) s.val ∗ D1 X W c (od q) s.val) -∗ wpC c k Q)
      -∗ wpC c ((if s.val < 6 then fun k => (if 0 < s.val then take 1 (ev q) else id) <| send c 1 (ev q) (s.val + 1) <|
          (if 0 < s.val then take 1 (od q) else id) <| send c 1 (od q) (s.val + 1) k else id) k) Q) := by
    rw [if_pos h6]
    iintro #HPC ⟨HO, He, Hd⟩ Hk
    iapply (pass_send X W κ ν c (ev q) (key := 3 + 16 * (8 + s.val) + 4 * q.val + 2) h6 (by rw [kSend_ev]; simp only [Fin.val_one]; omega)) $$ HPC HO He
    iintro HO He
    iapply (pass_send X W κ ν c (od q) (key := 3 + 16 * (8 + s.val) + 4 * q.val + 2 + 1) h6 (by rw [kSend_od]; simp only [Fin.val_one]; omega)) $$ HPC HO Hd
    iintro HO Hd
    iapply Hk
    isplitl [HO]; · (rw [show kP s.val (q.val + 1) = 3 + 16 * (8 + s.val) + 4 * q.val + 2 + 1 + 1 by unfold kP; omega]; iexact HO)
    isplitl [He]; · iexact He
    iexact Hd
  by_cases h6 : s.val < 6
  · by_cases h0 : 0 < s.val
    · rw [if_pos ⟨h0, h6⟩, show kP s.val q.val = 3 + 16 * (8 + s.val) + 4 * q.val by unfold kP; omega]
      iintro #HPC ⟨HO, He, Hd⟩ Hk
      iapply (pass_free X W κ ν c (ev q) (key := 3 + 16 * (8 + s.val) + 4 * q.val) h0 h6 (by rw [kFree_ev]; simp only [Fin.val_one]; omega)) $$ HPC HO He
      iintro HO He
      iapply (pass_free X W κ ν c (od q) (key := 3 + 16 * (8 + s.val) + 4 * q.val + 1) h0 h6 (by rw [kFree_od]; simp only [Fin.val_one]; omega)) $$ HPC HO Hd
      iintro HO Hd
      iapply (tail h6) $$ HPC [HO He Hd] Hk
      isplitl [HO]; · iexact HO
      isplitl [He]; · iexact He
      iexact Hd
    · have hs0 : s.val = 0 := by omega
      rw [if_neg (fun h => h0 h.1), show kP s.val q.val = 3 + 16 * (8 + s.val) + 4 * q.val by unfold kP; omega]
      iintro #HPC ⟨HO, He, Hd⟩ Hk
      ihave HO := (Ow_skip c (3 + 16 * (8 + s.val) + 4 * q.val) (by omega) (by omega) (by omega) (by omega) (by omega)) $$ HO
      ihave HO := (Ow_skip c (3 + 16 * (8 + s.val) + 4 * q.val + 1) (by omega) (by omega) (by omega) (by omega) (by omega)) $$ HO
      iapply (tail h6) $$ HPC [HO He Hd] Hk
      isplitl [HO]; · iexact HO
      rw [hs0]
      isplitl [He]; · iapply (pass_keep0 X W c (ev q)) $$ He
      iapply (pass_keep0 X W c (od q)) $$ Hd
  · have hs6 : s.val = 6 := by omega
    rw [if_neg (fun h => h6 h.2), if_neg h6, show kP s.val (q.val + 1) = kP s.val q.val by unfold kP; omega, hs6]
    iintro #HPC ⟨HO, He, Hd⟩ Hk
    iapply Hk
    isplitl [HO]; · iexact HO
    isplitl [He]; · iapply (pass_keep6 X W c (ev q)) $$ He
    iapply (pass_keep6 X W c (od q)) $$ Hd

theorem passPair_runs (s : Fin 7) (q : Fin 4) :
    Runs X W κ ν c
      iprop((Ow c (kP s.val q.val) ∗ OutAt c (outF X W c (nwAt (s.val + 1) q.val))) ∗ A1 X W c (ev q) s.val ∗ A1 X W c (od q) s.val)
      iprop((Ow c (kP s.val (q.val + 1)) ∗ OutAt c (outF X W c (nwAt (s.val + 1) (q.val + 1)))) ∗ D1 X W c (ev q) s.val ∗ D1 X W c (od q) s.val)
      (passPair c s q) := fun k Q => by
  have hs := s.isLt
  unfold passPair
  iintro #HPC ⟨⟨HO, Hout⟩, He, Hd⟩ Hk
  iapply (pass_recv X W κ ν c (ev q) (s := s.val) (key := kP s.val q.val) hs (by unfold kP; omega)) $$ HPC HO He
  iintro HO He
  iapply (pass_recv X W κ ν c (od q) (s := s.val) (key := kP s.val q.val) hs (by unfold kP; omega)) $$ HPC HO Hd
  iintro HO Hd
  iapply (passPair_head X W κ ν c s q _ Q) $$ HPC [HO He Hd]
  · isplitl [HO]; · iexact HO
    isplitl [He]; · iexact He
    iexact Hd
  iintro ⟨HO, He, Hd⟩
  iapply (pass_put X W c (ev q) s _ (nwAt_ev _ q)) $$ Hout He
  iintro Hout He
  iapply (pass_put X W c (od q) s _ (nwAt_od _ _ q)) $$ Hout Hd
  iintro Hout Hd
  rw [show s.val + 2 = s.val + 1 + 1 from rfl, nwAt_succ]
  iapply Hk
  isplitl [HO Hout]
  · isplitl [HO]; · iexact HO
    iexact Hout
  isplitl [He]; · iexact He
  iexact Hd

/-- The state before step `s` of handing round. -/
def J1 (s : ℕ) : sProp 𝕄 :=
  iprop((Ow c (kP s 0) ∗ OutAt c (outF X W c (nwAt (s + 1) 0))) ∗ All fun q => iprop(A1 X W c (ev q) s ∗ A1 X W c (od q) s))

theorem pass_runs (s : Fin 7) (hs : s.val ≠ 6) :
    Runs X W κ ν c (J1 X W c s.val) (J1 X W c (s.val + 1)) (fun k => List.foldr (passPair c s) k [0, 1, 2, 3]) := by
  have h : Runs X W κ ν c _ _ (fun k => List.foldr (passPair c s) k [0, 1, 2, 3]) :=
    four (I := fun q => iprop(Ow c (kP s.val q) ∗ OutAt c (outF X W c (nwAt (s.val + 1) q)))) fun q => passPair_runs X W κ ν c s q
  unfold D1 at h
  rw [show (fun q : Fin 4 => iprop((if s.val = 6 then F1 X W c (ev q) else A1 X W c (ev q) (s.val + 1)) ∗ (if s.val = 6 then F1 X W c (od q) else A1 X W c (od q) (s.val + 1))))
      = fun q => iprop(A1 X W c (ev q) (s.val + 1) ∗ A1 X W c (od q) (s.val + 1)) from funext fun q => by rw [if_neg hs, if_neg hs],
    nwAt_four, show kP s.val 4 = kP (s.val + 1) 0 by unfold kP; omega] at h
  exact h

theorem pass_last :
    Runs X W κ ν c (J1 X W c 6)
      iprop((Ow c 227 ∗ OutAt c (outF X W c (nwAt 7 4))) ∗ All fun q => iprop(F1 X W c (ev q) ∗ F1 X W c (od q)))
      (fun k => List.foldr (passPair c 6) k [0, 1, 2, 3]) :=
  four (I := fun q => iprop(Ow c (kP 6 q) ∗ OutAt c (outF X W c (nwAt 7 q)))) fun q => passPair_runs X W κ ν c 6 q

theorem passes_run :
    Runs X W κ ν c (J1 X W c 0)
      iprop((Ow c 227 ∗ OutAt c (outF X W c (nwAt 7 4))) ∗ All fun q => iprop(F1 X W c (ev q) ∗ F1 X W c (od q)))
      (fun k => List.foldr (fun s k => List.foldr (passPair c s) k [0, 1, 2, 3]) k [0, 1, 2, 3, 4, 5, 6]) :=
  (pass_runs X W κ ν c 0 (by decide)).comp <| (pass_runs X W κ ν c 1 (by decide)).comp <| (pass_runs X W κ ν c 2 (by decide)).comp <|
    (pass_runs X W κ ν c 3 (by decide)).comp <| (pass_runs X W κ ν c 4 (by decide)).comp <| (pass_runs X W κ ν c 5 (by decide)).comp <|
      pass_last X W κ ν c

end Cert.KernelIdeal.Hand

end
end
-- ==== Proof.KernelIdeal.Body.lean ====
/-
# The body before its loops

The two signals, the weights narrowed, the own block of rows multiplied and staged, the wait for the neighbours, the
first messages sent and the other blocks multiplied.
-/
module

public import proofs.«01_k».proof.Proof.KernelIdeal.Loops

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Rings in pairs -/

section Pairs

theorem All_eq (Φ : Fin 4 → sProp 𝕄) : All Φ = bigSep Finset.univ Φ := by
  rw [bigSep_univ_eq_bigSepL [0, 1, 2, 3] (by decide) (by decide) Φ]; rfl

theorem All_sep (Φ Ψ : Fin 4 → sProp 𝕄) : All (fun q => iprop(Φ q ∗ Ψ q)) = iprop(All Φ ∗ All Ψ) := by
  rw [All_eq, All_eq, All_eq, bigSep_sep']

theorem All_mono {Φ Ψ : Fin 4 → sProp 𝕄} (h : ∀ q, Φ q ⊢ Ψ q) : All Φ ⊢ All Ψ := by
  rw [All_eq, All_eq]; exact bigSep_mono fun q _ => h q

/-- Pairs of rings, as rings. -/
def ringE : Fin 4 × Fin 2 ≃ Fin 8 where
  toFun x := ⟨2 * x.1.val + x.2.val, by omega⟩
  invFun r := (⟨r.val / 2, by omega⟩, ⟨r.val % 2, by omega⟩)
  left_inv x := by
    have := x.2.isLt
    exact Prod.ext (Fin.ext (by show (2 * x.1.val + x.2.val) / 2 = x.1.val; omega)) (Fin.ext (by show (2 * x.1.val + x.2.val) % 2 = x.2.val; omega))
  right_inv r := Fin.ext (by show 2 * (r.val / 2) + r.val % 2 = r.val; omega)

theorem rings_eq (Φ : Fin 8 → sProp 𝕄) : bigSep Finset.univ Φ = All fun q => iprop(Φ (ev q) ∗ Φ (od q)) := by
  rw [bigSep_univ_equiv ringE, bigSep_univ_prod, All_eq]
  refine bigSep_congr fun q _ => ?_
  rw [bigSep_univ_eq_bigSepL [0, 1] (by decide) (by decide)]
  rfl

end Pairs

variable (X : Dev nD → Vec F S4096x512 .bf16) (W : Dev nD → Vec F S512x2048 .bf16) (κ : Dev nD × Ck → ℕ) (ν : Key → ℕ)
variable (c : Dev nD)

/-! ## Signals -/

theorem wp_sig (b : ℕ) (hb : b < 2) (n : Dev nD) (hn : ∀ q, tgtD (ringB b q) n = c) {key : ℕ} (how : owed c key = owed c (key + 1) + tallyAt (cell n .bar) 1 1)
    {k : P F} {Q : PUnit.{1} → sProp 𝕄} :
    PC X W κ ν ⊢ iprop(Ow c key -∗ dutyTok ER (cell n .bar) 0 b -∗ (bigSep Finset.univ fun q : Fin 4 => offer c (ringB b q)) -∗ (Ow c (key + 1) -∗ wpC c k Q)
      -∗ wpC c (.op (.semSignal (n, .tc) barS.sem (1#32).toInt) fun _ => k) Q) := by
  have hp : (bigSep Finset.univ fun q : Fin 4 => offer (F := F) c (ringB b q)) ⊢ (Rd X W).payload ((n : Thread nD τ), SemLoc.reg barS.sem) 0 b := by
    refine BIBase.Entails.trans ?_ (Entails.of_eq (payload_cell X W n .bar 0 b).symm)
    show _ ⊢ bigSep Finset.univ fun q : Fin 4 => offer (F := F) (tgtD (ringB b q) n) (ringB b q)
    exact Entails.of_eq (bigSep_congr fun q _ => by rw [hn q])
  unfold Ow
  iintro #HPC ⟨%Wt, HO⟩ Ht Hp Hk
  iapply (Rounds.wp_signal 𝒱₀ ER (Rd X W) (c : Thread nD τ) none (dst := (n : Thread nD τ)) (κ := κ (n, .bar)) (r := 0) (d := b)
      (by exact (duties_cell X W n .bar 0).symm ▸ Finset.mem_range.mpr hb)
      ((amount_cell X W n .bar 0 b).trans one_nat.symm) 1 (owed c (key + 1)) (how.trans (by rfl))) $$ [HO Ht Hp]
  · isplitr; · iapply (PC_cell X W κ ν n .bar); iexact HPC
    isplitl [HO]; · iexact HO
    isplitl [Ht]; · iexact Ht
    isplitl [Hp]; · iapply hp; iexact Hp
    iapply (PC_reached X W κ ν n .bar); iexact HPC
  iintro HO
  iapply Hk
  iexists _; iexact HO

theorem left_tgt (q : Fin 4) : tgtD (ringB 0 q) (leftD c) = c := by revert q c; decide +kernel
theorem right_tgt (q : Fin 4) : tgtD (ringB 1 q) (rightD c) = c := by revert q c; decide +kernel

theorem owed_one : owed c 1 = owed c 2 + tallyAt (cell (leftD c) .bar) 1 1 := owed_succ c (by decide)
theorem owed_two : owed c 2 = owed c 3 + tallyAt (cell (rightD c) .bar) 1 1 := owed_succ c (by decide)

/-! ## The blocks in memory -/

def XAt : sProp 𝕄 := (((c : Thread nD τ).loc cc0_stg0_0) ↦{fullShare} X c : sProp 𝕄)
def WAt : sProp 𝕄 := (((c : Thread nD τ).loc cc0_stg1_0) ↦{fullShare} W c : sProp 𝕄)
/-- The weights as the products take them. -/
def CAt : sProp 𝕄 := (((c : Thread nD τ).loc cc0_scratch0) ↦{fullShare} k0_pay3 (W c) : sProp 𝕄)
def CAny : sProp 𝕄 := iprop(∃ f : Vec F S512x2048 .bf16, (((c : Thread nD τ).loc cc0_scratch0) ↦{fullShare} f : sProp 𝕄))
/-- The result with the products of some blocks of rows in place. -/
def OutK (ks : Finset ℕ) : sProp 𝕄 := iprop(∃ f, ⌜Filled X W c ks f⌝ ∗ OutAt c f)

theorem two_zero : (![0, 0] : Fin 2 → Nat) = fun _ => 0 := by decide

theorem wp_weights {k : P F} {Q : PUnit.{1} → sProp 𝕄} :
    iprop(WAt W c ∗ CAny c) ⊢ iprop((WAt W c ∗ CAt W c -∗ wpC c k Q) -∗ wpC c (
      .op (.load wM wR.toLoadRect (View.loadsAt_vmem h_S512x2048)) fun w =>
      .op (.load cM wR.toLoadRect (View.loadsAt_vmem h_S512x2048)) fun _ =>
      .op (.store cM wR (k0_pay3 w) Finset.univ (View.stores_vmem h_S512x2048 ((Memref.isWhole_whole _).storeExact_slice rfl _ packedbf16_S512x2048_S512x2048_0_0) (fun _ => rfl)) (.inl rfl)) fun _ => k) Q) := by
  unfold WAt CAny CAt
  iintro ⟨HW, ⟨%f, HC⟩⟩ Hk
  iapply (wp_load 𝒱₀ (c : Thread nD τ) none Set.univ (m := wM) (Finset.subset_univ _)) $$ HW; iintro HW
  iapply (wp_load 𝒱₀ (c : Thread nD τ) none Set.univ (m := cM) (Finset.subset_univ _)) $$ HC; iintro HC
  rw [show View.readAt (Elt F) wM.view wR.toLoadRect (W c) = W c from Memref.readAt_unit_zero (Elt F) cc0_stg1_0 two_zero _ (W c)]
  iapply (wp_store 𝒱₀ (c : Thread nD τ) none Set.univ (m := cM) (r := wR) (Mk := Finset.univ) (Finset.subset_univ _)) $$ HC; iintro HC
  rw [show (cM.access wR).write (Elt F) f (k0_pay3 (W c)) Finset.univ = k0_pay3 (W c) from Memref.write_access_unit_zero_univ (Elt F) cc0_scratch0 two_zero _ f _]
  iapply Hk
  isplitl [HW]; · iexact HW
  iexact HC

theorem wp_mul {ox oo : Fin 2 → ℕ} {n : ℕ} (hn : n < 8) (hx : ox = ![512 * n, 0]) (ho : oo = ![512 * n, 0])
    (ix : ∀ a, ox a + S512x512.size a ≤ S4096x512.size a) (io : ∀ a, oo a + S512x2048.size a ≤ S4096x2048.size a) (ks : Finset ℕ) :
    Runs X W κ ν c iprop((XAt X c ∗ CAt W c) ∗ OutK X W c ks) iprop((XAt X c ∗ CAt W c) ∗ OutK X W c (insert n ks))
      (mul (Rect.unit (s := S4096x512) ox S512x512.size ix) rfl (Rect.unit (s := S4096x2048) oo S512x2048.size io) rfl) := fun k Q => by
  unfold XAt CAt OutK OutAt mul
  iintro - ⟨⟨HX, HC⟩, ⟨%f, %hf, HO⟩⟩ Hk
  iapply (wp_load_rect 𝒱₀ (c : Thread nD τ) none Set.univ (m := xM) (r := Rect.unit (s := S4096x512) ox S512x512.size ix) (Finset.subset_univ _)) $$ HX; iintro HX
  iapply (wp_load 𝒱₀ (c : Thread nD τ) none Set.univ (m := cM) (Finset.subset_univ _)) $$ HC; iintro HC
  iapply (wp_load_rect 𝒱₀ (c : Thread nD τ) none Set.univ (m := oM) (r := Rect.unit (s := S4096x2048) oo S512x2048.size io) (Finset.subset_univ _)) $$ HO; iintro HO
  iapply (wp_store 𝒱₀ (c : Thread nD τ) none Set.univ (m := oM) (r := Rect.unit (s := S4096x2048) oo S512x2048.size io) (Mk := Finset.univ) (Finset.subset_univ _)) $$ HO; iintro HO
  iapply Hk
  isplitl [HX HC]
  · isplitl [HX]; · iexact HX
    iexact HC
  iexists _
  isplitr; rotate_left
  · iexact HO
  ipureintro
  have h1 : (xM.access (Rect.unit (s := S4096x512) ox S512x512.size ix)).read (Elt F) (X c) = rowsX X c n := read_rows X c hn hx ix
  have h2 : View.readAt (Elt F) cM.view wR.toLoadRect (k0_pay3 (W c)) = k0_pay3 (W c) := Memref.readAt_unit_zero (Elt F) cc0_scratch0 two_zero _ _
  exact (congrArg (fun v => Filled X W c (insert n ks) ((oM.access (Rect.unit (s := S4096x2048) oo S512x2048.size io)).write (Elt F) f v Finset.univ))
    (congrArg₂ mulP h1 h2)).mpr (write_rows X W c ho io hf)

/-! ## Staging -/

theorem stage_run (r : Fin 8) (ks : Finset ℕ) (hc : c.val ∈ ks) :
    Runs X W κ ν c iprop(OutK X W c ks ∗ anySlot c .st r 0) iprop(OutK X W c ks ∗ slotIs c .st r 0 fullShare (MV X W 0 r 0 c)) (stage c r) := fun k Q => by
  unfold OutK stage
  iintro - ⟨⟨%f, %hf, HO⟩, Hs⟩ Hk
  iapply (wp_ldOut c (ownR r c) h_S512x256 f) $$ HO; iintro HO
  iapply (wp_ldSlot_any c r .st 0) $$ Hs; iintro Hs
  iapply (wp_stSlot c r .st 0) $$ Hs; iintro Hs
  iapply Hk
  isplitl [HO]
  · iexists f; isplitr; · (ipureintro; exact hf)
    iexact HO
  rw [show (oM.access (ownR r c)).read (Elt F) f = pT X W c r c.val from read_filled X W c (ownO_eq r c) (ownO_inb r c) hf hc]
  iexact Hs

theorem stages_run (ks : Finset ℕ) (hc : c.val ∈ ks) :
    Runs X W κ ν c iprop(OutK X W c ks ∗ All fun q => iprop(anySlot c .st (ev q) 0 ∗ anySlot c .st (od q) 0))
      iprop(OutK X W c ks ∗ All fun q => iprop(slotIs c .st (ev q) 0 fullShare (MV X W 0 (ev q) 0 c) ∗ slotIs c .st (od q) 0 fullShare (MV X W 0 (od q) 0 c)))
      (fun k => List.foldr (stage c) k [0, 1, 2, 3, 4, 5, 6, 7]) :=
  four (I := fun _ => OutK X W c ks) (g := fun q k => stage c (ev q) (stage c (od q) k)) fun q k Q => by
    iintro #HPC ⟨HO, He, Hd⟩ Hk
    iapply (stage_run X W κ ν c (ev q) ks hc _ Q) $$ HPC [HO He]
    · isplitl [HO]; · iexact HO
      iexact He
    iintro ⟨HO, He⟩
    iapply (stage_run X W κ ν c (od q) ks hc _ Q) $$ HPC [HO Hd]
    · isplitl [HO]; · iexact HO
      iexact Hd
    iintro ⟨HO, Hd⟩
    iapply Hk
    isplitl [HO]; · iexact HO
    isplitl [He]; · iexact He
    iexact Hd

/-! ## The wait for the neighbours -/

theorem sep_emp_swap (A B : sProp 𝕄) : iprop(A ∗ B ∗ emp) = iprop(B ∗ A) := by
  have h1 : iprop(A ∗ B ∗ emp) ⊢ iprop(B ∗ A) := by
    iintro ⟨H1, H2, -⟩; isplitl [H2]; · iexact H2
    iexact H1
  have h2 : iprop(B ∗ A) ⊢ iprop(A ∗ B ∗ emp) := by
    iintro ⟨H1, H2⟩; isplitl [H2]; · iexact H2
    isplitl [H1]; · iexact H1
    iempintro
  exact equiv_iff.mp ⟨h1, h2⟩

theorem rest_bar :
    bigSep ((Rd X W).duties ((c : Thread nD τ), SemLoc.reg barS.sem) 0 \ ∅) (fun d => (Rd X W).payload ((c : Thread nD τ), SemLoc.reg barS.sem) 0 d)
      = bigSep Finset.univ (fun r : Fin 8 => offer (F := F) (tgtD r c) r) := by
  rw [Finset.sdiff_empty]
  refine Eq.trans (congrArg (fun S => bigSep S _) (duties_cell X W c .bar 0)) ?_
  refine Eq.trans (bigSep_congr fun d _ => payload_cell X W c .bar 0 d) ?_
  show bigSep (Finset.range 2) _ = _
  rw [bigSep_last, bigSep_last, Finset.range_zero, bigSep_empty, rings_eq, All_sep, All_eq, All_eq]
  show iprop((bigSep Finset.univ fun q : Fin 4 => offer (F := F) (tgtD (od q) c) (od q)) ∗ (bigSep Finset.univ fun q : Fin 4 => offer (F := F) (tgtD (ev q) c) (ev q)) ∗ emp) = _
  exact sep_emp_swap _ _

/-- The first two slots of each phase at the neighbour a ring sends to. -/
def Dests (r : Fin 8) : sProp 𝕄 := iprop((Dest c 0 r 0 ∗ Dest c 0 r 1) ∗ Dest c 1 r 0 ∗ Dest c 1 r 1)

theorem offer_dests (r : Fin 8) : PC X W κ ν ⊢ iprop(offer (F := F) (tgtD r c) r -∗ Dests c r) := by
  unfold offer Dests Dest
  iintro #HPC ⟨H1, H2, H3, H4⟩
  isplitl [H1 H2]
  · isplitl [H1]
    · isplitl [H1]; · iexact H1
      iapply (PC_reached X W κ ν (tgtD r c) (.rcv 0 r (par 0))); iexact HPC
    · isplitl [H2]; · iexact H2
      iapply (PC_reached X W κ ν (tgtD r c) (.rcv 0 r (par 1))); iexact HPC
  · isplitl [H3]
    · isplitl [H3]; · iexact H3
      iapply (PC_reached X W κ ν (tgtD r c) (.rcv 1 r (par 0))); iexact HPC
    · isplitl [H4]; · iexact H4
      iapply (PC_reached X W κ ν (tgtD r c) (.rcv 1 r (par 1))); iexact HPC

theorem bar_run :
    Runs X W κ ν c iprop(Ow c 3 ∗ cred (tallyAt (cell c .bar) 1 2) ∗ atPos ER (cell c .bar) 0 ∅ 0)
      iprop((Ow c 3 ∗ atPos ER (cell c .bar) 1 ∅ 0) ∗ bigSep Finset.univ (Dests (F := F) c))
      (fun k => .op (.semWait barS.sem (2#32).toInt) fun _ => k) := fun k Q => by
  have hd : PC X W κ ν ⊢ iprop(bigSep Finset.univ (fun r : Fin 8 => offer (F := F) (tgtD r c) r) -∗ bigSep Finset.univ (Dests (F := F) c)) := by
    iintro #HPC H
    ihave HP := (BI.bigSep_of_persistent (Finset.univ : Finset (Fin 8)) (PC X W κ ν)) $$ HPC
    have : iprop((bigSep Finset.univ fun _ : Fin 8 => PC X W κ ν) ∗ bigSep Finset.univ (fun r : Fin 8 => offer (F := F) (tgtD r c) r)) ⊢ bigSep Finset.univ (Dests (F := F) c) := by
      rw [← bigSep_sep']
      refine bigSep_mono fun r _ => ?_
      show iprop(PC X W κ ν ∗ offer (F := F) (tgtD r c) r) ⊢ Dests c r
      iintro ⟨H1, H2⟩
      iapply (offer_dests X W κ ν c r) $$ H1 H2
    iapply this
    isplitl [HP]; · iexact HP
    iexact H
  unfold Ow
  iintro #HPC ⟨⟨%Wt, HO⟩, Hc, Hat⟩ Hk
  iapply (Rounds.wp_wait_rest_token 𝒱₀ ER (Rd X W) (c : Thread nD τ) none (κ := κ (c, .bar))
      (wpE_semWait_eq 𝒱₀ (c : Thread nD τ) none Set.univ) (Set.mem_univ _) 1 (O := owed c 3) (W := Wt) (R := 0) (m := 0) (T := ∅)
      (by exact (show (0 + 2 : ℕ) = 2 from rfl).trans (expect_cell X W c .bar 0).symm)) $$ [Hc HO Hat]
  · isplitr; · iapply (PC_cell X W κ ν c .bar); iexact HPC
    isplitl [Hc]; · iexact Hc
    isplitl [HO]; · iexact HO
    isplitr
    · iapply (mayWait c (.reg barS.sem) 1 3 (by decide) (.inr ⟨by decide, by decide⟩)); iapply (PC_lev X W κ ν); iexact HPC
    iexact Hat
  iintro ⟨HO, Hat, -, Hp⟩
  ihave Hp := (Entails.of_eq (rest_bar X W c)) $$ Hp
  iapply Hk
  isplitl [HO Hat]
  · isplitl [HO]; · iexists _; iexact HO
    iexact Hat
  iapply hd $$ HPC Hp

/-! ## The first messages -/

/-- A ring before its first message. -/
def R0 (r : Fin 8) : sProp 𝕄 :=
  iprop(Ph c 0 r 0 0 0 0 ∗ slotIs c .st r 0 fullShare (MV X W 0 r 0 c) ∗ anySlot c .st r 1 ∗ Dest c 0 r 0 ∗ Dest c 0 r 1)

theorem first_send (r : Fin 8) {key : ℕ} (hkey : key = kSend 0 r 0) :
    Runs X W κ ν c iprop(Ow c key ∗ R0 X W c r) iprop(Ow c (key + 1) ∗ A0 c r 0) (send c 0 r 0) := fun k Q => by
  unfold R0 A0 Ph crS
  rw [if_pos rfl, if_neg (by decide)]
  iintro #HPC ⟨HO, ⟨HS, HP, HV, HF, HT⟩, Hs, Hs1, Hd0, Hd1⟩ Hk
  ihave HP := (Pos_snd c 0 r 0) $$ HP
  icases HP with ⟨HP, #Hr⟩
  iapply (wp_send X W κ ν c 0 r (t := 0) (key := key) (by decide) hkey) $$ [HO HS Hs Hd0]
  · isplitr; · iexact HPC
    isplitl [HO]; · iexact HO
    isplitl [HS]; · iexact HS
    isplitr; · iexact Hr
    isplitl [Hs]; · iexact Hs
    iexact Hd0
  iintro ⟨HO, HS, Hc⟩
  iapply Hk
  isplitl [HO]; · iexact HO
  isplitl [HS HP HV HF HT]
  · isplitl [HS]; · iexact HS
    isplitl [HP]; · iexact HP
    isplitl [HV]; · iexact HV
    isplitl [HF]; · iexact HF
    iexact HT
  isplitl [Hc]; · iexact Hc
  isplitl [Hs1]; · iexact Hs1
  isplitl [Hd1]; · iexact Hd1
  iempintro

theorem firsts_run :
    Runs X W κ ν c iprop(Ow c 3 ∗ All fun q => iprop(R0 X W c (ev q) ∗ R0 X W c (od q)))
      iprop(Ow c 19 ∗ All fun q => iprop(A0 c (ev q) 0 ∗ A0 c (od q) 0))
      (fun k => List.foldr (fun r => send c 0 r 0) k [0, 1, 2, 3, 4, 5, 6, 7]) :=
  four (I := fun q => Ow c (3 + 4 * q)) (g := fun q k => send c 0 (ev q) 0 (send c 0 (od q) 0 k)) fun q k Q => by
    have hq := q.isLt
    iintro #HPC ⟨HO, He, Hd⟩ Hk
    ihave HO := (Ow_skip c (3 + 4 * q.val) (by omega) (by omega) (by omega) (by omega) (by omega)) $$ HO
    ihave HO := (Ow_skip c (3 + 4 * q.val + 1) (by omega) (by omega) (by omega) (by omega) (by omega)) $$ HO
    iapply (first_send X W κ ν c (ev q) (key := 3 + 4 * q.val + 1 + 1) (by rw [kSend_ev]; simp only [Fin.val_zero]) _ Q) $$ HPC [HO He]
    · isplitl [HO]; · iexact HO
      iexact He
    iintro ⟨HO, He⟩
    iapply (first_send X W κ ν c (od q) (key := 3 + 4 * q.val + 1 + 1 + 1) (by rw [kSend_od]; simp only [Fin.val_zero]) _ Q) $$ HPC [HO Hd]
    · isplitl [HO]; · iexact HO
      iexact Hd
    iintro ⟨HO, Hd⟩
    iapply Hk
    isplitl [HO]; · (rw [show 3 + 4 * (q.val + 1) = 3 + 4 * q.val + 1 + 1 + 1 + 1 by omega]; iexact HO)
    isplitl [He]; · iexact He
    iexact Hd

/-! ## The other blocks of rows -/

theorem mul_run (i : Fin 7) (ks : Finset ℕ) :
    Runs X W κ ν c iprop((XAt X c ∗ CAt W c) ∗ OutK X W c ks) iprop((XAt X c ∗ CAt W c) ∗ OutK X W c (insert ((c.val + i.val + 1) % 8) ks))
      (mul (Rect.unit (s := S4096x512) (k0_off11 c (BitVec.ofNat 32 (1 + i.val))) S512x512.size (k0_off11_inb c i)) rfl
        (Rect.unit (s := S4096x2048) (k0_off12 c (BitVec.ofNat 32 (1 + i.val))) S512x2048.size (k0_off12_inb c i)) rfl) :=
  wp_mul X W κ ν c (Nat.mod_lt _ (by decide)) (k0_off11_eq c i) (k0_off12_eq c i) _ _ ks

theorem rows_all :
    insert ((c.val + (3 : Fin 7).val + 1) % 8) (insert ((c.val + (4 : Fin 7).val + 1) % 8) (insert ((c.val + (2 : Fin 7).val + 1) % 8)
      (insert ((c.val + (5 : Fin 7).val + 1) % 8) (insert ((c.val + (1 : Fin 7).val + 1) % 8) (insert ((c.val + (6 : Fin 7).val + 1) % 8)
        (insert ((c.val + (0 : Fin 7).val + 1) % 8) {c.val})))))) = Finset.range 8 := by
  revert c; decide +kernel

theorem muls_run :
    Runs X W κ ν c iprop((XAt X c ∗ CAt W c) ∗ OutK X W c {c.val}) iprop((XAt X c ∗ CAt W c) ∗ OutK X W c (Finset.range 8))
      (fun k => List.foldr (fun (i : Fin 7) =>
        mul (Rect.unit (s := S4096x512) (k0_off11 c (BitVec.ofNat 32 (1 + i.val))) S512x512.size (k0_off11_inb c i)) rfl
          (Rect.unit (s := S4096x2048) (k0_off12 c (BitVec.ofNat 32 (1 + i.val))) S512x2048.size (k0_off12_inb c i)) rfl) k [0, 6, 1, 5, 2, 4, 3]) := by
  rw [← rows_all c]
  exact (mul_run X W κ ν c 0 _).comp <| (mul_run X W κ ν c 6 _).comp <| (mul_run X W κ ν c 1 _).comp <| (mul_run X W κ ν c 5 _).comp <|
    (mul_run X W κ ν c 2 _).comp <| (mul_run X W κ ν c 4 _).comp <| mul_run X W κ ν c 3 _

theorem OutK_all : OutK X W c (Finset.range 8) ⊢ OutAt c (outF X W c (nwAt 0 0)) := by
  unfold OutK
  iintro ⟨%f, %hf, H⟩
  rw [nwAt_zero, ← filled_all X W c hf]
  iexact H

end Cert.KernelIdeal.Hand

end
end
-- ==== Proof.KernelIdeal.Whole.lean ====
/-
# The whole body

The parts one after the other, and after them every cell closed, its counter at zero.
-/
module

public import proofs.«01_k».proof.Proof.KernelIdeal.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (X : Dev nD → Vec F S4096x512 .bf16) (W : Dev nD → Vec F S512x2048 .bf16) (κ : Dev nD × Ck → ℕ) (ν : Key → ℕ)
variable (c : Dev nD)

/-! ## Closing the cells -/

/-- The cells of a ring in a phase, their counters at zero. -/
def Zero (p : Fin 2) (r : Fin 8) : sProp 𝕄 :=
  iprop(semVal (cell c (.snd p r 0)) 0 ∗ semVal (cell c (.snd p r 1)) 0 ∗ semVal (cell c (.rcv p r 0)) 0 ∗ semVal (cell c (.rcv p r 1)) 0 ∗ semVal (cell c (.crd p r)) 0)

theorem close_cell (k : Ck) (R : ℕ) (h : ∀ r, R ≤ r → dutOf k r = ∅) :
    PC X W κ ν ⊢ iprop(atPos ER (cell c k) R ∅ 0 -∗ |={Set.univ}=> semVal (cell c k) 0) := by
  iintro #HPC Hat
  iapply (Rounds.cell_close ER (Rd X W) (Set.mem_univ (κ (c, k))) (fun h => h) (R := R) (fun r hr => (duties_cell X W c k r).trans (h r hr)))
  isplitr; · iapply (PC_cell X W κ ν c k); iexact HPC
  iexact Hat

theorem close_ph (p : Fin 2) (r : Fin 8) : PC X W κ ν ⊢ iprop(Ph (F := F) c p r 7 7 5 5 -∗ |={Set.univ}=> Zero c p r) := by
  unfold Ph Pos PosAt Tk Zero
  iintro #HPC ⟨-, ⟨⟨⟨HS1, -⟩, ⟨HV1, -⟩⟩, ⟨⟨HS0, -⟩, ⟨HV0, -⟩⟩⟩, -, -, ⟨⟨%S, %hS, Hat, -⟩, -⟩⟩
  have hS5 : Finset.range 5 ⊆ S := (Finset.eq_of_subset_of_card_le hS.1 (by rw [Finset.card_range]; exact hS.2)).ge
  imod (Rounds.fupd_skip ER (Rd X W) (κ := κ (c, .crd p r)) (g := cell c (.crd p r)) (R := 0) (m := 5) (T := S)
    (by rw [duties_cell]; exact hS5) (by exact (show (5 : ℕ) = 5 * 1 from rfl).trans (expect_cell X W c (.crd p r) 0).symm) (Es := Set.univ) (Set.mem_univ _)) $$ [Hat] with ⟨Hat, -⟩
  · isplitr; · iapply (PC_cell X W κ ν c (.crd p r)); iexact HPC
    iexact Hat
  imod (close_cell X W κ ν c (.crd p r) 1 (fun r' h => if_neg (by omega))) $$ HPC Hat with HC
  imod (show PC X W κ ν ⊢ iprop(atPos ER (cell c (.snd p r (par 7))) (7 / 2) ∅ 0 -∗ |={Set.univ}=> semVal (cell c (.snd p r 1)) 0) from
    close_cell X W κ ν c (.snd p r 1) 3 (fun r' h => if_neg (by show ¬ r' < 4 - 1; omega))) $$ HPC HS1 with HS1
  imod (show PC X W κ ν ⊢ iprop(atPos ER (cell c (.snd p r (par 8))) (8 / 2) ∅ 0 -∗ |={Set.univ}=> semVal (cell c (.snd p r 0)) 0) from
    close_cell X W κ ν c (.snd p r 0) 4 (fun r' h => if_neg (by show ¬ r' < 4 - 0; omega))) $$ HPC HS0 with HS0
  imod (show PC X W κ ν ⊢ iprop(atPos ER (cell c (.rcv p r (par 7))) (7 / 2) ∅ 0 -∗ |={Set.univ}=> semVal (cell c (.rcv p r 1)) 0) from
    close_cell X W κ ν c (.rcv p r 1) 3 (fun r' h => if_neg (by show ¬ r' < 4 - 1; omega))) $$ HPC HV1 with HV1
  imod (show PC X W κ ν ⊢ iprop(atPos ER (cell c (.rcv p r (par 8))) (8 / 2) ∅ 0 -∗ |={Set.univ}=> semVal (cell c (.rcv p r 0)) 0) from
    close_cell X W κ ν c (.rcv p r 0) 4 (fun r' h => if_neg (by show ¬ r' < 4 - 0; omega))) $$ HPC HV0 with HV0
  imodintro
  isplitl [HS0]; · iexact HS0
  isplitl [HS1]; · iexact HS1
  isplitl [HV0]; · iexact HV0
  isplitl [HV1]; · iexact HV1
  iexact HC

/-- A ring's slots at any contents, and its cells at zero. -/
def Done (r : Fin 8) : sProp 𝕄 := iprop(((anySlot c .st r 0 ∗ anySlot c .st r 1) ∗ offer c r) ∗ Zero c 0 r ∗ Zero c 1 r)

theorem close_ring (r : Fin 8) : PC X W κ ν ⊢ iprop(F0 (F := F) c r ∗ F1 X W c r -∗ |={Set.univ}=> Done c r) := by
  unfold F0 F1 Done offer
  iintro #HPC ⟨⟨H0, Hs1, Hr0, Hr1⟩, ⟨H1, Hs0, Ha0, Ha1⟩⟩
  imod (close_ph X W κ ν c 0 r) $$ HPC H0 with H0
  imod (close_ph X W κ ν c 1 r) $$ HPC H1 with H1
  imodintro
  isplitr [H0 H1]
  · isplitl [Hs0 Hs1]
    · isplitl [Hs0]; · iexact Hs0
      iexact Hs1
    isplitl [Hr0]; · iexact Hr0
    isplitl [Hr1]; · iexact Hr1
    isplitl [Ha0]; · iapply (slotIs_any c .ag r 0 _); iexact Ha0
    iexact Ha1
  isplitl [H0]; · iexact H0
  iexact H1

/-- What is known persistently may be used ring by ring. -/
theorem each_ring {Φ Ψ : Fin 8 → sProp 𝕄} (h : ∀ r, PC X W κ ν ⊢ iprop(Φ r -∗ |={Set.univ}=> Ψ r)) :
    PC X W κ ν ⊢ iprop(bigSep Finset.univ Φ -∗ |={Set.univ}=> bigSep Finset.univ Ψ) := by
  have h' : iprop((bigSep Finset.univ fun _ : Fin 8 => PC X W κ ν) ∗ bigSep Finset.univ Φ) ⊢ iprop(|={Set.univ}=> bigSep Finset.univ Ψ) := by
    rw [← bigSep_sep']
    refine BIBase.Entails.trans (bigSep_mono fun r _ => ?_) (bigSep_fupd Finset.univ Ψ)
    show iprop(PC X W κ ν ∗ Φ r) ⊢ iprop(|={Set.univ}=> Ψ r)
    iintro ⟨H1, H2⟩
    iapply (h r) $$ H1 H2
  iintro #HPC H
  ihave HP := (BI.bigSep_of_persistent (Finset.univ : Finset (Fin 8)) (PC X W κ ν)) $$ HPC
  iapply h'
  isplitl [HP]; · iexact HP
  iexact H

/-! ## The body -/

/-- The barrier's part of what a device starts with. -/
def Bar : sProp 𝕄 :=
  iprop(dutyTok ER (cell (leftD c) .bar) 0 0 ∗ dutyTok ER (cell (rightD c) .bar) 0 1 ∗ cred (tallyAt (cell c .bar) 1 2) ∗ atPos ER (cell c .bar) 0 ∅ 0)

/-- What a device starts with for a ring, its buffers apart. -/
def Begin (r : Fin 8) : sProp 𝕄 := iprop(Ph c 0 r 0 0 0 0 ∗ Ph c 1 r 0 0 0 0)

/-- A ring's slots at any contents. -/
def Slots (r : Fin 8) : sProp 𝕄 := iprop((anySlot c .st r 0 ∗ anySlot c .st r 1) ∗ offer c r)

def Pre : sProp 𝕄 :=
  iprop(Ow c 1 ∗ Bar c ∗ bigSep Finset.univ (Begin (F := F) c) ∗ bigSep Finset.univ (Slots (F := F) c)
    ∗ XAt X c ∗ WAt W c ∗ CAny c ∗ ∃ f, OutAt c f)

def Post : sProp 𝕄 :=
  iprop(Ow c 227 ∗ (bigSep Finset.univ (Slots (F := F) c) ∗ CAny c)
    ∗ (semVal (cell c .bar) 0 ∗ bigSep Finset.univ fun r => iprop(Zero (F := F) c 0 r ∗ Zero c 1 r))
    ∗ XAt X c ∗ WAt W c ∗ OutAt c (outF X W c fun _ => 8))

theorem offers_split : bigSep Finset.univ (fun r => offer (F := F) c r)
    = iprop((bigSep Finset.univ fun q : Fin 4 => offer c (ringB 0 q)) ∗ bigSep Finset.univ fun q : Fin 4 => offer c (ringB 1 q)) := by
  rw [rings_eq, All_sep, All_eq, All_eq]; rfl

theorem slots_split : bigSep Finset.univ (Slots (F := F) c)
    = iprop((All (fun q => iprop(anySlot c .st (ev q) 0 ∗ anySlot c .st (od q) 0)) ∗ bigSep Finset.univ (fun r => anySlot c .st r 1)) ∗ bigSep Finset.univ (fun r => offer (F := F) c r)) := by
  unfold Slots
  rw [bigSep_sep', bigSep_sep', rings_eq (fun r => anySlot c .st r 0)]

theorem done_split : bigSep Finset.univ (Done (F := F) c) = iprop(bigSep Finset.univ (Slots (F := F) c) ∗ bigSep Finset.univ fun r => iprop(Zero (F := F) c 0 r ∗ Zero c 1 r)) := by
  unfold Done Slots
  rw [bigSep_sep']

/-- The states before the first messages, from what the parts before have left. -/
theorem to_R0 : iprop(bigSep Finset.univ (Begin (F := F) c)
      ∗ (All fun q => iprop(slotIs c .st (ev q) 0 fullShare (MV X W 0 (ev q) 0 c) ∗ slotIs c .st (od q) 0 fullShare (MV X W 0 (od q) 0 c)))
      ∗ bigSep Finset.univ (fun r => anySlot c .st r 1) ∗ bigSep Finset.univ (Dests (F := F) c))
    ⊢ iprop((All fun q => iprop(R0 X W c (ev q) ∗ R0 X W c (od q))) ∗ (All fun q => iprop(Z1 (F := F) c (ev q) ∗ Z1 c (od q)))) := by
  rw [← rings_eq (fun r => slotIs c .st r 0 fullShare (MV X W 0 r 0 c)), ← rings_eq (R0 X W c), ← rings_eq (Z1 (F := F) c),
    ← bigSep_sep', ← bigSep_sep', ← bigSep_sep', ← bigSep_sep']
  refine bigSep_mono fun r _ => ?_
  have h : iprop(Begin (F := F) c r ∗ slotIs c .st r 0 fullShare (MV X W 0 r 0 c) ∗ anySlot c .st r 1 ∗ Dests c r) ⊢ iprop(R0 X W c r ∗ Z1 c r) := by
    unfold Begin Dests R0 Z1
    iintro ⟨⟨H0, H1⟩, Hs, Hs1, ⟨Hd, Hd'⟩, He⟩
    isplitr [H1 He]
    · isplitl [H0]; · iexact H0
      isplitl [Hs]; · iexact Hs
      isplitl [Hs1]; · iexact Hs1
      isplitl [Hd]; · iexact Hd
      iexact Hd'
    isplitl [H1]; · iexact H1
    iexact He
  exact h

theorem outF_end : outF X W c (nwAt 7 4) = outF X W c fun _ => 8 := by rw [nwAt_four, nwAt_zero]

theorem insert_empty_own : insert c.val (∅ : Finset ℕ) = {c.val} := rfl

/-- The first half of the body: up to the first messages. -/
theorem start_run (k : P F) (Q : PUnit.{1} → sProp 𝕄) :
    PC X W κ ν ⊢ iprop(Pre X W c -∗ (iprop(((Ow c 19 ∗ All fun q => iprop(A0 (F := F) c (ev q) 0 ∗ A0 c (od q) 0)) ∗ (All fun q => iprop(Z1 (F := F) c (ev q) ∗ Z1 c (od q))) ∗ atPos ER (cell c .bar) 1 ∅ 0)
        ∗ (XAt X c ∗ CAt W c) ∗ OutK X W c {c.val} ∗ WAt W c) -∗ wpC c k Q)
      -∗ wpC c (
  .op (.semSignal (⟨k0_dev1 c, k0_dev1_lt c⟩, .tc) barS.sem (1#32).toInt) fun _ =>
  .op (.semSignal (⟨k0_dev2 c, k0_dev2_lt c⟩, .tc) barS.sem (1#32).toInt) fun _ =>
  .op (.load wM wR.toLoadRect (View.loadsAt_vmem h_S512x2048)) fun w =>
  .op (.load cM wR.toLoadRect (View.loadsAt_vmem h_S512x2048)) fun _ =>
  .op (.store cM wR (k0_pay3 w) Finset.univ (View.stores_vmem h_S512x2048 ((Memref.isWhole_whole _).storeExact_slice rfl _ packedbf16_S512x2048_S512x2048_0_0) (fun _ => rfl)) (.inl rfl)) fun _ =>
  mul (Rect.unit (s := S4096x512) (k0_off1 c) S512x512.size (k0_off1_inb c)) rfl (Rect.unit (s := S4096x2048) (k0_off2 c) S512x2048.size (k0_off2_inb c)) rfl <|
  (List.foldr (stage c) · [0, 1, 2, 3, 4, 5, 6, 7]) <|
  .op (.semWait barS.sem (2#32).toInt) fun _ =>
  (List.foldr (fun r => send c 0 r 0) · [0, 1, 2, 3, 4, 5, 6, 7]) k) Q) := by
  unfold Pre Bar
  rw [slots_split, offers_split]
  iintro #HPC ⟨HO, ⟨Ht0, Ht1, Hcb, Hab⟩, HB, ⟨⟨Hs0, Hs1⟩, ⟨Ho0, Ho1⟩⟩, HX, HW, HC, ⟨%f, Hout⟩⟩ Hk
  iapply (wp_sig X W κ ν c 0 (by decide) (leftD c) (left_tgt c) (key := 1) (owed_one c)) $$ HPC HO Ht0 Ho0
  iintro HO
  iapply (wp_sig X W κ ν c 1 (by decide) (rightD c) (right_tgt c) (key := 2) (owed_two c)) $$ HPC HO Ht1 Ho1
  iintro HO
  iapply (wp_weights W c) $$ [HW HC]
  · isplitl [HW]; · iexact HW
    iexact HC
  iintro ⟨HW, HC⟩
  iapply (wp_mul X W κ ν c c.isLt (k0_off1_eq c) (k0_off2_eq c) (k0_off1_inb c) (k0_off2_inb c) ∅ _ Q) $$ HPC [HX HC Hout]
  · isplitl [HX HC]
    · isplitl [HX]; · iexact HX
      iexact HC
    unfold OutK
    iexists f; isplitr; · (ipureintro; intro i hi; exact absurd hi (Finset.notMem_empty _))
    iexact Hout
  iintro ⟨HXC, Hout⟩
  iapply (stages_run X W κ ν c (insert c.val ∅) (Finset.mem_insert_self _ _) _ Q) $$ HPC [Hout Hs0]
  · isplitl [Hout]; · iexact Hout
    iexact Hs0
  iintro ⟨Hout, Hs0⟩
  iapply (bar_run X W κ ν c _ Q) $$ HPC [HO Hcb Hab]
  · isplitl [HO]; · iexact HO
    isplitl [Hcb]; · iexact Hcb
    iexact Hab
  iintro ⟨⟨HO, Hab⟩, HD⟩
  ihave HR := (to_R0 X W c) $$ [HB Hs0 Hs1 HD]
  · isplitl [HB]; · iexact HB
    isplitl [Hs0]; · iexact Hs0
    isplitl [Hs1]; · iexact Hs1
    iexact HD
  icases HR with ⟨HR, HZ⟩
  iapply (firsts_run X W κ ν c _ Q) $$ HPC [HO HR]
  · isplitl [HO]; · iexact HO
    iexact HR
  iintro HA
  iapply Hk
  isplitl [HA HZ Hab]
  · isplitl [HA]; · iexact HA
    isplitl [HZ]; · iexact HZ
    iexact Hab
  isplitl [HXC]; · iexact HXC
  isplitl [Hout]; · iexact Hout
  iexact HW

theorem end_run (Q : PUnit.{1} → sProp 𝕄) :
    PC X W κ ν ⊢ iprop(iprop(((Ow c 19 ∗ All fun q => iprop(A0 (F := F) c (ev q) 0 ∗ A0 c (od q) 0)) ∗ (All fun q => iprop(Z1 (F := F) c (ev q) ∗ Z1 c (od q))) ∗ atPos ER (cell c .bar) 1 ∅ 0)
        ∗ (XAt X c ∗ CAt W c) ∗ OutK X W c {c.val} ∗ WAt W c) -∗ (Post X W c -∗ Q ⟨⟩)
      -∗ wpC c (
  (List.foldr (fun (i : Fin 7) =>
    mul (Rect.unit (s := S4096x512) (k0_off11 c (BitVec.ofNat 32 (1 + i.val))) S512x512.size (k0_off11_inb c i)) rfl
      (Rect.unit (s := S4096x2048) (k0_off12 c (BitVec.ofNat 32 (1 + i.val))) S512x2048.size (k0_off12_inb c i)) rfl) · [0, 6, 1, 5, 2, 4, 3]) <|
  (List.foldr (fun s k => List.foldr (addPair c s) k [0, 1, 2, 3]) · [0, 1, 2, 3, 4, 5]) <|
  (List.foldr (sumPair c) · [0, 1, 2, 3]) <|
  (List.foldr (fun s k => List.foldr (passPair c s) k [0, 1, 2, 3]) · [0, 1, 2, 3, 4, 5, 6]) <|
  .ret ⟨⟩) Q) := by
  have hs : iprop((All fun q => iprop(A0 (F := F) c (ev q) 6 ∗ A0 c (od q) 6)) ∗ (All fun q => iprop(Z1 (F := F) c (ev q) ∗ Z1 c (od q))))
      ⊢ All fun q => iprop((A0 (F := F) c (ev q) 6 ∗ A0 c (od q) 6) ∗ Z1 c (ev q) ∗ Z1 c (od q)) := Entails.of_eq (All_sep _ _).symm
  have hp : (All fun q => iprop((F0 (F := F) c (ev q) ∗ F0 c (od q)) ∗ A1 X W c (ev q) 0 ∗ A1 X W c (od q) 0))
      ⊢ iprop(bigSep Finset.univ (F0 (F := F) c) ∗ All fun q => iprop(A1 X W c (ev q) 0 ∗ A1 X W c (od q) 0)) := by
    rw [All_sep, ← rings_eq (F0 (F := F) c)]
  have hd : iprop(bigSep Finset.univ (F0 (F := F) c) ∗ All fun q => iprop(F1 X W c (ev q) ∗ F1 X W c (od q)))
      ⊢ bigSep Finset.univ fun r => iprop(F0 (F := F) c r ∗ F1 X W c r) := by
    rw [bigSep_sep', ← rings_eq (F1 X W c)]
  iintro #HPC ⟨⟨⟨HO, HA⟩, HZ, Hab⟩, HXC, Hout, HW⟩ Hk
  iapply (muls_run X W κ ν c _ Q) $$ HPC [HXC Hout]
  · isplitl [HXC]; · iexact HXC
    iexact Hout
  iintro ⟨⟨HX, HC⟩, Hout⟩
  ihave Hout := (OutK_all X W c) $$ Hout
  iapply (adds_run X W κ ν c _ Q) $$ HPC [HO HA Hout]
  · unfold J0
    isplitl [HO Hout]
    · isplitl [HO]; · iexact HO
      iexact Hout
    iexact HA
  unfold J0
  iintro ⟨HO, HA⟩
  iapply (sums_run X W κ ν c _ Q) $$ HPC [HO HA HZ]
  · isplitl [HO]; · iexact HO
    iapply hs
    isplitl [HA]; · iexact HA
    iexact HZ
  iintro ⟨⟨HO, Hout⟩, HA⟩
  ihave HA := hp $$ HA
  icases HA with ⟨HF0, HA⟩
  iapply (passes_run X W κ ν c _ Q) $$ HPC [HO Hout HA]
  · unfold J1
    isplitl [HO Hout]
    · isplitl [HO]; · iexact HO
      rw [← nwAt_four]; iexact Hout
    iexact HA
  iintro ⟨⟨HO, Hout⟩, HF1⟩
  ihave HF := hd $$ [HF0 HF1]
  · isplitl [HF0]; · iexact HF0
    iexact HF1
  unfold wpC
  rw [wp_ret]
  imod (each_ring X W κ ν (close_ring X W κ ν c)) $$ HPC HF with HF
  imod (close_cell X W κ ν c .bar 1 (fun r' h => if_neg (by omega))) $$ HPC Hab with Hab
  imodintro
  iapply Hk
  ihave HF := (Entails.of_eq (done_split (F := F) c)) $$ HF
  icases HF with ⟨HF, HZ⟩
  unfold Post
  isplitl [HO]; · iexact HO
  isplitl [HF HC]
  · isplitl [HF]; · iexact HF
    unfold CAt CAny
    iexists _; iexact HC
  isplitl [Hab HZ]
  · isplitl [Hab]; · iexact Hab
    iexact HZ
  isplitl [HX]; · iexact HX
  isplitl [HW]; · iexact HW
  rw [← outF_end]
  iexact Hout

/-- The body, from what a device starts with to what it ends with. -/
theorem prog_run (Q : PUnit.{1} → sProp 𝕄) : PC X W κ ν ⊢ iprop(Pre X W c -∗ (Post X W c -∗ Q ⟨⟩) -∗ wpC c prog Q) := by
  unfold prog
  iintro #HPC HP Hk
  unfold wpC
  rw [wp_deviceId]
  iapply (start_run X W κ ν c _ Q) $$ HPC HP
  iintro H
  iapply (end_run X W κ ν c Q) $$ HPC H Hk

end Cert.KernelIdeal.Hand

end
end
-- ==== Proof.KernelIdeal.Credits.lean ====
/-
# What each device expects of the others at the start

The launch gives every device, for each of its cells, the right to all that the devices owe that cell; here those rights
are sorted by cell and by place in the order.
-/
module

public import proofs.«01_k».proof.Proof.KernelIdeal.Whole

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Sorting by kinds of cells -/

/-- The cells of one ring in one phase. -/
def five (Φ : Ck → sProp (MT nD τ sig ℕ (Elt F) ℕ UU ℕ)) (p : Fin 2) (r : Fin 8) : sProp 𝕄 :=
  iprop(Φ (.snd p r 0) ∗ Φ (.snd p r 1) ∗ Φ (.rcv p r 0) ∗ Φ (.rcv p r 1) ∗ Φ (.crd p r))

/-- A device's cells but its barrier. -/
abbrev Kown : Type := (Fin 2 × Fin 8 × Fin 2) ⊕ ((Fin 2 × Fin 8 × Fin 2) ⊕ (Fin 2 × Fin 8))
abbrev ownK (k : Kown) : Ck := Ck.equiv (.inr k)

omit [FloatOps F] in
theorem assoc_eq (A B C : sProp 𝕄) : iprop((A ∗ B) ∗ C) = iprop(A ∗ B ∗ C) := by
  have h : iprop((A ∗ B) ∗ C) ⊣⊢ iprop(A ∗ B ∗ C) := BI.Laws.sep_assoc
  exact BI.equiv_iff.mp ⟨h.1, h.2⟩

omit [FloatOps F] in
theorem fin2_sep (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- Over both phases and all rings, as ring by ring. -/
theorem phases (Φ : Fin 2 → Fin 8 → sProp 𝕄) :
    (bigSep Finset.univ fun p => bigSep Finset.univ fun r => Φ p r) = bigSep Finset.univ fun r : Fin 8 => iprop(Φ 0 r ∗ Φ 1 r) := by
  rw [bigSep_univ_comm]
  exact bigSep_congr fun r _ => fin2_sep _

omit [FloatOps F] in
theorem own_split (Φ : Ck → sProp 𝕄) :
    (bigSep Finset.univ fun k : Kown => Φ (ownK k)) = bigSep Finset.univ fun r : Fin 8 => iprop(five Φ 0 r ∗ five Φ 1 r) := by
  rw [← phases, bigSep_univ_sum, bigSep_univ_sum, bigSep_univ_prod, bigSep_univ_prod, bigSep_univ_prod]
  refine Eq.trans (b := bigSep Finset.univ fun p : Fin 2 => iprop((bigSep Finset.univ fun x : Fin 8 × Fin 2 => Φ (ownK (.inl (p, x))))
      ∗ (bigSep Finset.univ fun x : Fin 8 × Fin 2 => Φ (ownK (.inr (.inl (p, x)))))
      ∗ bigSep Finset.univ fun r : Fin 8 => Φ (ownK (.inr (.inr (p, r)))))) (by rw [bigSep_sep', bigSep_sep']; rfl) ?_
  refine bigSep_congr fun p _ => ?_
  rw [bigSep_univ_prod, bigSep_univ_prod, ← bigSep_sep', ← bigSep_sep']
  refine bigSep_congr fun r _ => ?_
  rw [fin2_sep, fin2_sep]
  unfold five
  rw [assoc_eq, assoc_eq]
  rfl

omit [FloatOps F] in
theorem ck_split (Φ : Ck → sProp 𝕄) :
    bigSep Finset.univ Φ = iprop(Φ .bar ∗ bigSep Finset.univ fun r : Fin 8 => iprop(five Φ 0 r ∗ five Φ 1 r)) := by
  rw [bigSep_univ_equiv Ck.equiv, bigSep_univ_sum, own_split]
  refine congrArg (fun A => iprop(A ∗ _)) ?_
  rw [Finset.univ_unique, bigSep_singleton]
  rfl

/-! ## Credit at several places -/

section Credit
variable (g : GSem nD τ sig)

omit [FloatOps F] in
theorem cred_at (T : ℕ →₀ ℕ) (u n : ℕ) (h : n ≤ T u) :
    (cred (tallyOn g T) : sProp 𝕄) ⊢ iprop(cred (tallyAt g u n) ∗ cred (tallyOn g (T - Finsupp.single u n))) := by
  have e : (tallyOn g T : CellTallies nD τ sig ℕ) = tallyAt g u n + tallyOn g (T - Finsupp.single u n) := by
    unfold tallyAt
    rw [← tallyOn_add, add_tsub_cancel_of_le]
    intro v
    rw [Finsupp.single_apply]
    split
    · next e => exact e ▸ h
    · exact Nat.zero_le _
  rw [e]
  exact (cred_add _ _).1

omit [FloatOps F] in
theorem cred_some (f : ℕ → ℕ) (hf : Function.Injective f) (n : ℕ) (S : Finset ℕ) :
    ∀ T : ℕ →₀ ℕ, (∀ t ∈ S, n ≤ T (f t)) → ((cred (tallyOn g T) : sProp 𝕄) ⊢ bigSep S fun t => cred (tallyAt g (f t) n)) := by
  induction S using Finset.induction_on with
  | empty => intro T _; rw [bigSep_empty]; iintro -; iempintro
  | insert t S ht ih =>
    intro T h
    rw [bigSep_insert ht]
    have h1 := cred_at (F := F) g T (f t) n (h t (Finset.mem_insert_self _ _))
    have h2 := ih (T - Finsupp.single (f t) n) fun t' ht' => by
      rw [Finsupp.tsub_apply, Finsupp.single_apply, if_neg (fun e : f t = f t' => ht ((hf e).symm ▸ ht')), Nat.sub_zero]
      exact h t' (Finset.mem_insert_of_mem ht')
    exact h1.trans (sep_mono_right h2)

end Credit

/-! ## What the devices owe one cell -/

theorem kSend_inj (p : Fin 2) (r : Fin 8) : Function.Injective (kSend p r) := fun a b h => by unfold kSend at h; omega
theorem kFree_inj (p : Fin 2) (r : Fin 8) : Function.Injective (kFree p r) := fun a b h => by unfold kFree at h; omega

theorem owed_ge (d : Dev nD) (g : GSem nD τ sig) (u j n : ℕ) (h1 : 1 ≤ j) (h2 : j < 227) (h : n ≤ tal d j g u) : n ≤ owed d 1 g u := by
  unfold owed
  rw [Finset.sum_apply, Finsupp.finset_sum_apply]
  exact h.trans (Finset.single_le_sum (f := fun j => tal d j g u) (fun _ _ => Nat.zero_le _) (Finset.mem_Ico.mpr ⟨h1, h2⟩))

abbrev due (g : GSem nD τ sig) : ℕ →₀ ℕ := launchCredit (Pipeline.owing fun c : Dev nD => owed c 1) 0 g

theorem due_ge (d : Dev nD) (g : GSem nD τ sig) (u j n : ℕ) (h1 : 1 ≤ j) (h2 : j < 227) (h : n ≤ tal d j g u) : n ≤ due g u := by
  unfold due
  rw [Pipeline.launchCredit_owing]
  exact (owed_ge d g u j n h1 h2 h).trans (Finset.single_le_sum (f := fun d => owed d 1 g u) (fun _ _ => Nat.zero_le _) (Finset.mem_univ d))

theorem due_rcv (c : Dev nD) (p : Fin 2) (r : Fin 8) (t : ℕ) (ht : t < 7) : N ≤ due (cell c (.rcv p r (par t))) (kSend p r t) := by
  have hp := p.isLt; have hr := r.isLt
  refine due_ge (wrtD r c) _ _ (kSend p r t) N (by unfold kSend; omega) (by unfold kSend; omega) ?_
  rw [tal_send _ _ _ _ ht, tgt_wrt, tallyAt_self]

theorem due_crd (c : Dev nD) (p : Fin 2) (r : Fin 8) (m : ℕ) (hm : m < 5) : 1 ≤ due (cell c (.crd p r)) (kFree p r m) := by
  have hp := p.isLt; have hr := r.isLt
  refine due_ge (tgtD r c) _ _ (kFree p r m) 1 (by unfold kFree; omega) (by unfold kFree; omega) ?_
  rw [tal_free _ _ _ _ hm, wrt_tgt, tallyAt_self]

theorem left_right (c : Dev nD) : leftD (rightD c) = c := by revert c; decide +kernel
theorem right_left (c : Dev nD) : rightD (leftD c) = c := by revert c; decide +kernel
theorem right_ne_left (c : Dev nD) : rightD c ≠ leftD c := by revert c; decide +kernel

theorem due_bar (c : Dev nD) : 2 ≤ due (cell c .bar) 1 := by
  unfold due
  rw [Pipeline.launchCredit_owing]
  have h1 : 1 ≤ owed (rightD c) 1 (cell c .bar) 1 := owed_ge _ _ _ 1 1 le_rfl (by decide) (by
    unfold tal; rw [if_pos rfl, left_right, tallyAt_self])
  have h2 : 1 ≤ owed (leftD c) 1 (cell c .bar) 1 := owed_ge _ _ _ 2 1 (by decide) (by decide) (by
    unfold tal; rw [if_neg (by decide), if_pos rfl, right_left, tallyAt_self])
  refine le_trans ?_ (Finset.sum_le_sum_of_subset (f := fun d => owed d 1 (cell c .bar) 1) (Finset.subset_univ {rightD c, leftD c}))
  rw [Finset.sum_pair (right_ne_left c)]
  exact Nat.add_le_add h1 h2

/-! ## A device's expectations -/

/-- The credits a device may take from its own credit cell. -/
def TakC (c : Dev nD) (p : Fin 2) (r : Fin 8) : sProp 𝕄 :=
  bigSep (Finset.Ico 0 5) fun m => cred (tallyAt (cell c (.crd p r)) (kFree p r m) 1)

abbrev dueAt (c : Dev nD) (k : Ck) : sProp 𝕄 := cred (tallyOn (cell c k) (due (cell c k)))

omit [FloatOps F] in
theorem rcv_halves (c : Dev nD) (p : Fin 2) (r : Fin 8) :
    iprop(dueAt (F := F) c (.rcv p r 0) ∗ dueAt c (.rcv p r 1)) ⊢ RcvC (F := F) c p r 0 := by
  have h (j : Fin 2) : dueAt (F := F) c (.rcv p r j)
      ⊢ bigSep ((Finset.Ico 0 7).filter fun t => par t = j) fun t => cred (tallyAt (cell c (.rcv p r (par t))) (kSend p r t) N) := by
    rw [bigSep_congr (s := (Finset.Ico 0 7).filter fun t => par t = j) fun t ht => by rw [(Finset.mem_filter.mp ht).2]]
    exact cred_some (cell c (.rcv p r j)) (kSend p r) (kSend_inj p r) N _ _ fun t ht => by
      have h := Finset.mem_filter.mp ht
      rw [← h.2]; exact due_rcv c p r t (Finset.mem_Ico.mp h.1).2
  have e : Finset.Ico 0 7 = (Finset.Ico 0 7).filter (fun t => par t = 0) ∪ (Finset.Ico 0 7).filter (fun t => par t = 1) := by decide
  unfold RcvC
  rw [e, bigSep_union (by decide)]
  exact BI.sep_mono (h 0) (h 1)

omit [FloatOps F] in
theorem five_due (c : Dev nD) (p : Fin 2) (r : Fin 8) : five (dueAt (F := F) c) p r ⊢ iprop(RcvC (F := F) c p r 0 ∗ TakC c p r) := by
  unfold five
  have hc : dueAt (F := F) c (.crd p r) ⊢ TakC c p r :=
    cred_some (cell c (.crd p r)) (kFree p r) (kFree_inj p r) 1 _ _ fun m hm => due_crd c p r m (Finset.mem_Ico.mp hm).2
  iintro ⟨-, -, H0, H1, Hc⟩
  isplitl [H0 H1]
  · iapply (rcv_halves c p r); isplitl [H0]; · iexact H0
    iexact H1
  · iapply hc; iexact Hc

omit [FloatOps F] in
theorem bar_due (c : Dev nD) : dueAt (F := F) c .bar ⊢ cred (tallyAt (cell c .bar) 1 2) :=
  (cred_at (cell c .bar) _ 1 2 (due_bar c)).trans (by
    have h : iprop(cred (tallyAt (cell c .bar) 1 2) ∗ cred (tallyOn (cell c .bar) (due (cell c .bar) - Finsupp.single 1 2))) ⊢ (cred (tallyAt (cell c .bar) 1 2) : sProp 𝕄) := by
      iintro ⟨H, -⟩; iexact H
    exact h)

omit [FloatOps F] in
/-- All a device expects. -/
theorem expects (c : Dev nD) :
    (Pipeline.launchCred (fun c : Dev nD => owed c 1) c : sProp 𝕄)
      ⊢ iprop(cred (tallyAt (cell c .bar) 1 2)
        ∗ bigSep Finset.univ fun r : Fin 8 => iprop((RcvC c 0 r 0 ∗ TakC c 0 r) ∗ (RcvC c 1 r 0 ∗ TakC c 1 r))) := by
  unfold Pipeline.launchCred
  refine (bigSep_subset (Finset.subset_univ (Finset.univ.map ⟨Ck.loc, loc_injective⟩))).trans ?_
  rw [bigSep_map]
  refine (Entails.of_eq (ck_split fun k => dueAt (F := F) c k)).trans ?_
  exact BI.sep_mono (bar_due c) (bigSep_mono fun r _ => BI.sep_mono (five_due c 0 r) (five_due c 1 r))

end Cert.KernelIdeal.Hand

end

end
-- ==== Proof.KernelIdeal.Tokens.lean ====
/-
# What the launch deals

The launch makes every cell's rounds, every duty's token and every slot's records, and deals them: a device keeps the
records of its own cells and of the slots it reads, and gets the tokens of the duties it fulfils at its neighbours.
-/
module

public import proofs.«01_k».proof.Proof.KernelIdeal.Credits

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The cells and the tokens -/

theorem cell_inj {c c' : Dev nD} {k k' : Ck} (h : cell c k = cell c' k') : c = c' ∧ k = k' :=
  ⟨congrArg (fun g : GSem nD τ sig => g.1.1) h, loc_injective (congrArg (fun g : GSem nD τ sig => g.2) h)⟩

abbrev cellAt (x : Dev nD × Ck) : GSem nD τ sig := cell x.1 x.2
theorem cellAt_inj : Function.Injective cellAt := fun _ _ h => Prod.ext (cell_inj h).1 (cell_inj h).2

abbrev Mix (n : ℕ) : Type := Fin 2 × Fin 8 × Fin n
abbrev Tix : Type := Fin 2 ⊕ (Mix 7 ⊕ (Mix 7 ⊕ Mix 5))

/-- A device's duties: cell, round and number. -/
def tokK : Tix → Ck × ℕ × ℕ
  | .inl b => (.bar, 0, b.val)
  | .inr (.inl (p, r, t)) => (.snd p r (par t.val), t.val / 2, 0)
  | .inr (.inr (.inl (p, r, t))) => (.rcv p r (par t.val), t.val / 2, 0)
  | .inr (.inr (.inr (p, r, m))) => (.crd p r, 0, m.val)

def tokI : Ck × ℕ × ℕ → Tix
  | (.bar, _, d) => .inl ⟨d % 2, Nat.mod_lt _ (by decide)⟩
  | (.snd p r j, R, _) => .inr (.inl (p, r, ⟨(2 * R + j.val) % 7, Nat.mod_lt _ (by decide)⟩))
  | (.rcv p r j, R, _) => .inr (.inr (.inl (p, r, ⟨(2 * R + j.val) % 7, Nat.mod_lt _ (by decide)⟩)))
  | (.crd p r, _, d) => .inr (.inr (.inr (p, r, ⟨d % 5, Nat.mod_lt _ (by decide)⟩)))

theorem tokI_tokK (x : Tix) : tokI (tokK x) = x := by
  have h (t : Fin 7) : (⟨(2 * (t.val / 2) + (par t.val).val) % 7, Nat.mod_lt _ (by decide)⟩ : Fin 7) = t := by
    revert t; decide
  rcases x with b | ⟨p, r, t⟩ | ⟨p, r, t⟩ | ⟨p, r, m⟩
  · exact congrArg Sum.inl (Fin.ext (Nat.mod_eq_of_lt b.isLt))
  · exact congrArg (fun t => Sum.inr (Sum.inl (p, r, t))) (h t)
  · exact congrArg (fun t => Sum.inr (Sum.inr (Sum.inl (p, r, t)))) (h t)
  · exact congrArg (fun t => Sum.inr (Sum.inr (Sum.inr (p, r, t)))) (Fin.ext (Nat.mod_eq_of_lt m.isLt))

abbrev tokAt (x : Dev nD × Tix) : GSem nD τ sig × ℕ × ℕ := (cell x.1 (tokK x.2).1, (tokK x.2).2)
theorem tokAt_inj : Function.Injective tokAt := fun x y h => by
  have h1 := cell_inj (congrArg Prod.fst h)
  have h2 : tokK x.2 = tokK y.2 := Prod.ext h1.2 (congrArg (fun z : GSem nD τ sig × ℕ × ℕ => z.2) h)
  exact Prod.ext h1.1 (by rw [← tokI_tokK x.2, h2, tokI_tokK])

def ringCells : Finset (GSem nD τ sig) := Finset.univ.map ⟨cellAt, cellAt_inj⟩
def ringToks : Finset (GSem nD τ sig × ℕ × ℕ) := Finset.univ.map ⟨tokAt, tokAt_inj⟩

/-- The ghost state at the start. -/
def u₀ : UU :=
  (initOf (Pipeline.cells cfgs cellOf_inj) (Pipeline.launchToks cfgs cellOf_inj), (initOf ringCells ringToks, initSlots keys 1))

/-! ## Shifting along the rings -/

section Shift
variable {B : Type} [Fintype B] (rg : B → Fin 8)

/-- Each entry moved to the device it is for. -/
def shear : Dev nD × B ≃ Dev nD × B where
  toFun x := (tgtD (rg x.2) x.1, x.2)
  invFun x := (wrtD (rg x.2) x.1, x.2)
  left_inv x := Prod.ext (wrt_tgt _ _) rfl
  right_inv x := Prod.ext (tgt_wrt _ _) rfl

omit [FloatOps F] in
theorem to_tgt (Φ : Dev nD → B → sProp 𝕄) :
    (bigSep Finset.univ fun c => bigSep Finset.univ fun b => Φ c b) = bigSep Finset.univ fun c => bigSep Finset.univ fun b => Φ (tgtD (rg b) c) b := by
  rw [← bigSep_univ_prod (fun x : Dev nD × B => Φ x.1 x.2), ← bigSep_univ_prod (fun x : Dev nD × B => Φ (tgtD (rg x.2) x.1) x.2),
    bigSep_univ_equiv (shear rg)]
  rfl
omit [FloatOps F] in
theorem to_wrt (Φ : Dev nD → B → sProp 𝕄) :
    (bigSep Finset.univ fun c => bigSep Finset.univ fun b => Φ c b) = bigSep Finset.univ fun c => bigSep Finset.univ fun b => Φ (wrtD (rg b) c) b := by
  rw [← bigSep_univ_prod (fun x : Dev nD × B => Φ x.1 x.2), ← bigSep_univ_prod (fun x : Dev nD × B => Φ (wrtD (rg x.2) x.1) x.2),
    bigSep_univ_equiv (shear rg).symm]
  rfl
end Shift

omit [FloatOps F] in
theorem ico_fin (n : ℕ) (Φ : ℕ → sProp 𝕄) : bigSep (Finset.Ico 0 n) Φ = bigSep Finset.univ fun i : Fin n => Φ i.val := by
  rw [show Finset.Ico 0 n = (Finset.univ : Finset (Fin n)).map Fin.valEmbedding from ?_, bigSep_map]
  · rfl
  · ext x
    simp only [Finset.mem_Ico, Finset.mem_map, Finset.mem_univ, true_and, Fin.valEmbedding_apply]
    exact ⟨fun h => ⟨⟨x, h.2⟩, rfl⟩, fun ⟨i, h⟩ => ⟨Nat.zero_le _, h ▸ i.isLt⟩⟩

omit [FloatOps F] in
/-- Over phases, rings and messages, one inside the other. -/
theorem mix_rings (n : ℕ) (Φ : Fin 2 → Fin 8 → ℕ → sProp 𝕄) :
    (bigSep Finset.univ fun x : Mix n => Φ x.1 x.2.1 x.2.2.val)
      = bigSep Finset.univ fun p => bigSep Finset.univ fun r => bigSep (Finset.Ico 0 n) (Φ p r) := by
  rw [bigSep_univ_prod]
  refine bigSep_congr fun p _ => ?_
  rw [bigSep_univ_prod]
  exact bigSep_congr fun r _ => (ico_fin n (Φ p r)).symm

omit [FloatOps F] in
theorem keys_mix (Φ : Key → sProp 𝕄) :
    bigSep keys Φ = bigSep Finset.univ fun c : Dev nD => bigSep Finset.univ fun x : Mix 5 => Φ (c, x.1, x.2.1, x.2.2.val) := by
  have hinj : Function.Injective fun x : Dev nD × Mix 5 => ((x.1, x.2.1, x.2.2.1, x.2.2.2.val) : Key) := fun x y h => by
    obtain ⟨c, p, r, m⟩ := x; obtain ⟨c', p', r', m'⟩ := y
    simp only [Prod.mk.injEq] at h
    obtain ⟨rfl, rfl, rfl, h⟩ := h
    rw [Fin.ext h]
  rw [← bigSep_univ_prod (fun x : Dev nD × Mix 5 => Φ (x.1, x.2.1, x.2.2.1, x.2.2.2.val)),
    show keys = (Finset.univ : Finset (Dev nD × Mix 5)).map ⟨_, hinj⟩ from ?_, bigSep_map]
  · rfl
  · ext ⟨c, p, r, m⟩
    simp only [keys, Finset.mem_product, Finset.mem_univ, true_and, Finset.mem_range, Finset.mem_map, Function.Embedding.coeFn_mk, Prod.exists]
    constructor
    · intro h; exact ⟨c, p, r, ⟨m, h⟩, rfl⟩
    · rintro ⟨c', p', r', m', h⟩
      have : m'.val = m := congrArg (fun k : Key => k.2.2.2) h
      exact this ▸ m'.isLt

/-! ## What a device gets -/

section Deal
variable (X : Dev nD → Vec F S4096x512 .bf16) (W : Dev nD → Vec F S512x2048 .bf16)

/-- What a device is dealt for a ring in a phase. -/
def Lin (c : Dev nD) (p : Fin 2) (r : Fin 8) : sProp 𝕄 :=
  iprop(five (fun k => atPos ER (cell c k) 0 ∅ 0) p r
    ∗ (bigSep (Finset.Ico 0 7) fun t => dutyTok ER (cell c (.snd p r (par t))) (t / 2) 0)
    ∗ (bigSep (Finset.Ico 0 7) fun t => dutyTok ER (cell (tgtD r c) (.rcv p r (par t))) (t / 2) 0)
    ∗ (bigSep (Finset.Ico 0 5) fun m => dutyTok ER (cell (wrtD r c) (.crd p r)) 0 m)
    ∗ (bigSep (Finset.Ico 0 5) fun m => readerAt ES (c, p, r, m) 0)
    ∗ bigSep (Finset.Ico 0 5) fun m => writeTok ES (tgtD r c, p, r, m) 1)

def BarLin (c : Dev nD) : sProp 𝕄 :=
  iprop(atPos ER (cell c .bar) 0 ∅ 0 ∗ dutyTok ER (cell (leftD c) .bar) 0 0 ∗ dutyTok ER (cell (rightD c) .bar) 0 1)

def linear (c : Dev nD) : sProp 𝕄 := iprop(BarLin c ∗ bigSep Finset.univ fun r : Fin 8 => iprop(Lin c 0 r ∗ Lin c 1 r))

/-- A device's duties' tokens. -/
def toks (c : Dev nD) : sProp 𝕄 := bigSep Finset.univ fun x : Tix => dutyTok ER (cell c (tokK x).1) (tokK x).2.1 (tokK x).2.2

/-- What the launch's ghost state gives device by device. -/
def G (c : Dev nD) : sProp 𝕄 :=
  iprop((bigSep Finset.univ fun k : Ck => roundState ER (Rd X W) (cell c k) 0)
    ∗ (bigSep Finset.univ fun k : Ck => reached ER (cell c k) 0)
    ∗ (bigSep Finset.univ fun k : Ck => atPos ER (cell c k) 0 ∅ 0)
    ∗ toks c ∗ if c = 0 then BI.own (ES (initSlots keys 1)) else BI.emp)

theorem fund_rings : BI.own (ER (initOf ringCells ringToks)) ∗ BI.own (ES (initSlots keys 1)) ⊢ (|==> bigSep Finset.univ (G X W) : sProp 𝕄) := by
  have hX (Φ : GSem nD τ sig → sProp 𝕄) : bigSep ringCells Φ = bigSep Finset.univ fun c : Dev nD => bigSep Finset.univ fun k : Ck => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro ⟨HX, HS⟩
  imod (Rounds.fund ER (Rd X W) ringCells ringToks) $$ HX with ⟨Hst, Hr, Hat, Htok⟩
  imodintro
  ihave Hst := (Entails.of_eq (hX fun g => roundState ER (Rd X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := (bigSep_deal_one (0 : Dev nD) (BI.own (ES (initSlots keys 1)) : sProp 𝕄)) $$ HS
  unfold G; simp only [bigSep_sep']
  isplitl [Hst]; · iexact Hst
  isplitl [Hr]; · iexact Hr
  isplitl [Hat]; · iexact Hat
  isplitl [Htok]; · iexact Htok
  iexact HS

/-! ## The invariants -/

omit [FloatOps F] in
theorem unscopedSems0_eq (c : Dev nD) : (unscopedSems0 c : sProp 𝕄) = semVal (cell c .bar) 0 := by
  unfold unscopedSems0; rw [bigSep_eq_bigSepL_of_eq [SemLoc.reg barS.sem] (by decide) (by decide)]; rfl

abbrev osem (k : Kown) : SemLoc sig := (ownK k).loc

omit [FloatOps F] in
theorem ownSems0_eq (c : Dev nD) : (Pipeline.ownSems0 (Ix := ℕ) (Name := ℕ) (U := UU) (Lvl := ℕ) (Val := Elt F) (τ := τ) osem c : sProp 𝕄)
    = bigSep Finset.univ fun k : Kown => semVal (cell c (ownK k)) 0 := rfl

omit [FloatOps F] in
theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : Ck => semVal (cell c k) 0 : sProp 𝕄) := by
  rw [ownSems0_eq, unscopedSems0_eq, ck_split, own_split (fun k => semVal (cell c k) 0)]
  iintro ⟨H1, H2⟩
  isplitl [H2]; · iexact H2
  iexact H1

theorem core_alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (Rd X W) κ (cell c k)))
          ∗ (bigSep Finset.univ fun k : Ck => reached ER (cell c k) 0)
          ∗ (bigSep Finset.univ fun k : Ck => atPos ER (cell c k) 0 ∅ 0)
          ∗ toks c ∗ if c = 0 then BI.own (ES (initSlots keys 1)) else BI.emp) := by
  unfold G
  iintro ⟨Hos, Hus, Hst, Hrest⟩
  ihave Hv := (sems0 (F := F) c) $$ [Hos Hus]
  · isplitl [Hos] <;> iassumption
  imod (show iprop((bigSep Finset.univ fun k : Ck => semVal (cell c k) 0) ∗ bigSep Finset.univ fun k : Ck => roundState ER (Rd X W) (cell c k) 0)
      ⊢ (|={Set.univ}=> bigSep Finset.univ fun k => iprop(∃ κ : ℕ, cellInv ER (Rd X W) κ (cell c k)) : sProp 𝕄) from by
        rw [← bigSep_sep']
        exact (bigSep_mono fun k _ => (Rounds.body_intro ER (Rd X W) (cell c k)).trans inv_alloc).trans (bigSep_fupd _ _)) $$ [Hv Hst] with Hinv
  · isplitl [Hv] <;> iassumption
  imodintro
  isplitl [Hinv]; · iexact Hinv
  iexact Hrest

/-- What every device knows. -/
def Know (κ : Dev nD × Ck → ℕ) (ν : Key → ℕ) : sProp 𝕄 :=
  iprop((bigSep Finset.univ fun x : Dev nD × Ck => cellInv ER (Rd X W) (κ x) (cell x.1 x.2))
    ∗ (bigSep keys fun k => slotInv ES (ν k) k (slotOf k))
    ∗ bigSep Finset.univ fun x : Dev nD × Ck => reached ER (cell x.1 x.2) 0)

instance Know_persistent (κ : Dev nD × Ck → ℕ) (ν : Key → ℕ) : BI.Persistent (Know X W κ ν) := by unfold Know; infer_instance

def G' (c : Dev nD) : sProp 𝕄 := iprop(∃ κ ν, Know X W κ ν ∗ linear c)

/-! ## The deal -/

omit [FloatOps F] in
theorem toks_split (c : Dev nD) : toks (F := F) c = iprop((bigSep Finset.univ fun b : Fin 2 => dutyTok ER (cell c .bar) 0 b.val)
    ∗ (bigSep Finset.univ fun x : Mix 7 => dutyTok ER (cell c (.snd x.1 x.2.1 (par x.2.2.val))) (x.2.2.val / 2) 0)
    ∗ (bigSep Finset.univ fun x : Mix 7 => dutyTok ER (cell c (.rcv x.1 x.2.1 (par x.2.2.val))) (x.2.2.val / 2) 0)
    ∗ bigSep Finset.univ fun x : Mix 5 => dutyTok ER (cell c (.crd x.1 x.2.1)) 0 x.2.2.val) := by
  unfold toks
  rw [bigSep_univ_sum, bigSep_univ_sum, bigSep_univ_sum]
  rfl

theorem tgt_left (c : Dev nD) : tgtD 1 c = leftD c := by revert c; decide +kernel
theorem tgt_right (c : Dev nD) : tgtD 0 c = rightD c := by revert c; decide +kernel

omit [FloatOps F] in
theorem bar_deal : (bigSep Finset.univ fun c : Dev nD => bigSep Finset.univ fun b : Fin 2 => (dutyTok ER (cell c .bar) 0 b.val : sProp 𝕄))
    = bigSep Finset.univ fun c : Dev nD => iprop(dutyTok ER (cell (leftD c) .bar) 0 0 ∗ dutyTok ER (cell (rightD c) .bar) 0 1) := by
  rw [to_tgt (fun b : Fin 2 => if b = 0 then 1 else 0)]
  refine bigSep_congr fun c _ => ?_
  rw [fin2_sep, if_pos rfl, if_neg (by decide), tgt_left, tgt_right]
  rfl

/-- What device `c` gets, kind by kind. -/
def dealt (c : Dev nD) : sProp 𝕄 :=
  iprop((bigSep Finset.univ fun k : Ck => atPos ER (cell c k) 0 ∅ 0)
    ∗ (dutyTok ER (cell (leftD c) .bar) 0 0 ∗ dutyTok ER (cell (rightD c) .bar) 0 1)
    ∗ (bigSep Finset.univ fun x : Mix 7 => dutyTok ER (cell c (.snd x.1 x.2.1 (par x.2.2.val))) (x.2.2.val / 2) 0)
    ∗ (bigSep Finset.univ fun x : Mix 7 => dutyTok ER (cell (tgtD x.2.1 c) (.rcv x.1 x.2.1 (par x.2.2.val))) (x.2.2.val / 2) 0)
    ∗ (bigSep Finset.univ fun x : Mix 5 => dutyTok ER (cell (wrtD x.2.1 c) (.crd x.1 x.2.1)) 0 x.2.2.val)
    ∗ (bigSep Finset.univ fun x : Mix 5 => readerAt ES (c, x.1, x.2.1, x.2.2.val) 0)
    ∗ bigSep Finset.univ fun x : Mix 5 => writeTok ES (tgtD x.2.1 c, x.1, x.2.1, x.2.2.val) 1)

omit [FloatOps F] in
theorem deal :
    iprop((bigSep Finset.univ fun c : Dev nD => bigSep Finset.univ fun k : Ck => atPos ER (cell c k) 0 ∅ 0)
      ∗ (bigSep Finset.univ fun c : Dev nD => toks c) ∗ bigSep keys (fun k => readerAt ES k 0)
      ∗ bigSep (keys ×ˢ Finset.range 1) (fun x => writeTok ES x.1 (x.2 + 1)))
    ⊢ (bigSep Finset.univ fun c : Dev nD => dealt c : sProp 𝕄) := by
  have hw : bigSep (keys ×ˢ Finset.range 1) (fun x => (writeTok ES x.1 (x.2 + 1) : sProp 𝕄)) = bigSep keys fun k => writeTok ES k 1 := by
    rw [Finset.range_one, Finset.product_singleton, bigSep_map]; rfl
  rw [hw, keys_mix, keys_mix, to_tgt (fun x : Mix 5 => x.2.1) (fun c x => writeTok ES (c, x.1, x.2.1, x.2.2.val) 1),
    bigSep_congr (s := Finset.univ) fun c _ => toks_split (F := F) c]
  unfold dealt
  simp only [bigSep_sep']
  rw [bar_deal, bigSep_sep', to_tgt (fun x : Mix 7 => x.2.1) (fun c x => dutyTok ER (cell c (.rcv x.1 x.2.1 (par x.2.2.val))) (x.2.2.val / 2) 0),
    to_wrt (fun x : Mix 5 => x.2.1) (fun c x => dutyTok ER (cell c (.crd x.1 x.2.1)) 0 x.2.2.val)]
  iintro ⟨H1, ⟨H2, H3, H4, H5⟩, H6, H7⟩
  isplitl [H1]; · iexact H1
  isplitl [H2]; · iexact H2
  isplitl [H3]; · iexact H3
  isplitl [H4]; · iexact H4
  isplitl [H5]; · iexact H5
  isplitl [H6]; · iexact H6
  iexact H7

omit [FloatOps F] in
theorem dealt_linear (c : Dev nD) : dealt (F := F) c ⊢ linear c := by
  have e : linear (F := F) c = iprop(BarLin c ∗ (bigSep Finset.univ fun p => bigSep Finset.univ fun r : Fin 8 => Lin c p r)) := by
    unfold linear; rw [← phases]
  rw [e]
  unfold dealt BarLin Lin
  rw [ck_split, ← phases]
  simp only [bigSep_sep']
  rw [mix_rings 7 (fun p r t => dutyTok ER (cell c (.snd p r (par t))) (t / 2) 0),
    mix_rings 7 (fun p r t => dutyTok ER (cell (tgtD r c) (.rcv p r (par t))) (t / 2) 0),
    mix_rings 5 (fun p r m => dutyTok ER (cell (wrtD r c) (.crd p r)) 0 m),
    mix_rings 5 (fun p r m => readerAt ES (c, p, r, m) 0),
    mix_rings 5 (fun p r m => writeTok ES (tgtD r c, p, r, m) 1)]
  iintro ⟨⟨H1, H1'⟩, H2, H3, H4, H5, H6, H7⟩
  isplitl [H1 H2]
  · isplitl [H1]; · iexact H1
    iexact H2
  isplitl [H1']; · iexact H1'
  isplitl [H3]; · iexact H3
  isplitl [H4]; · iexact H4
  isplitl [H5]; · iexact H5
  isplitl [H6]; · iexact H6
  iexact H7

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X W) κ (cell c k)))
          ∗ (bigSep Finset.univ fun k : Ck => reached ER (cell c k) 0)
          ∗ (bigSep Finset.univ fun k : Ck => atPos ER (cell c k) 0 ∅ 0)
          ∗ toks c ∗ if c = 0 then BI.own (ES (initSlots keys 1)) else BI.emp) : sProp 𝕄)
      ⊢ |={Set.univ}=> bigSep Finset.univ (G' X W) := by
  rw [bigSep_sep', bigSep_sep', bigSep_sep', bigSep_sep', ← bigSep_univ_prod (fun x : Dev nD × Ck => iprop(∃ κ : ℕ, cellInv ER (Rd X W) κ (cell x.1 x.2))),
    ← bigSep_univ_prod (fun x : Dev nD × Ck => (reached ER (cell x.1 x.2) 0 : sProp 𝕄))]
  have h0 : (bigSep Finset.univ fun c : Dev nD => if c = 0 then BI.own (ES (initSlots keys 1)) else BI.emp) ⊢ (BI.own (ES (initSlots keys 1)) : sProp 𝕄) :=
    (bigSep_elim (Finset.mem_univ (0 : Dev nD))).trans (by rw [if_pos rfl]; exact BI.Entails.refl _)
  iintro ⟨HI, #HR, Hat, Htok, HS⟩
  ihave HK := (BI.bigSep_exists_pi Finset.univ (fun (x : Dev nD × Ck) (κ : ℕ) => (cellInv ER (Rd X W) κ (cell x.1 x.2) : sProp 𝕄))) $$ HI
  icases HK with ⟨%κ, #HI⟩
  ihave HS := h0 $$ HS
  imod (slots_init (E := ES) keys 1 (fun k => slotOf (F := F) k)) $$ HS with ⟨%ν, -, #HV, Hrd, Hwr⟩
  imodintro
  ihave HD := (deal (F := F)) $$ [Hat Htok Hrd Hwr]
  · isplitl [Hat]; · iexact Hat
    isplitl [Htok]; · iexact Htok
    isplitl [Hrd]; · iexact Hrd
    iexact Hwr
  iapply (with_all (R := Know X W κ ν) (Φ := fun c => dealt c) fun c _ => by
    have h : iprop(Know X W κ ν ∗ dealt c) ⊢ G' X W c := by
      unfold G'
      iintro ⟨#HK, HD⟩
      iexists κ, ν
      isplitr; · iexact HK
      iapply (dealt_linear (F := F) c); iexact HD
    exact h)
  isplitr
  · unfold Know; isplitr; · iexact HI
    isplitr; · iexact HV
    iexact HR
  · iexact HD

/-- All devices' semaphores made into invariants, and everything dealt. -/
theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) := by
  refine ((bigSep_mono fun c _ => core_alloc X W c).trans (bigSep_fupd _ _)).trans ?_
  exact (BI.fupd_mono (regroup X W)).trans fupd_trans

/-! ## A device's start -/

theorem begin_ring (κ : Dev nD × Ck → ℕ) (ν : Key → ℕ) (c : Dev nD) (p : Fin 2) (r : Fin 8) :
    PC X W κ ν ⊢ iprop(Lin c p r -∗ (RcvC c p r 0 ∗ TakC c p r) -∗ Ph c p r 0 0 0 0) := by
  unfold Lin Ph five Pos PosAt SndT Fr Tk TakC
  rw [Finset.range_zero, bigSep_empty, bigSep_sep', bigSep_sep', bigSep_sep']
  iintro #HPC ⟨⟨Ha, Hb, Hc, Hd, He⟩, H1, H2, H3, H4, H5⟩ ⟨H6, H7⟩
  ihave #Hra := (PC_reached X W κ ν c (.snd p r 0)) $$ HPC
  ihave #Hrb := (PC_reached X W κ ν c (.snd p r 1)) $$ HPC
  ihave #Hrc := (PC_reached X W κ ν c (.rcv p r 0)) $$ HPC
  ihave #Hrd := (PC_reached X W κ ν c (.rcv p r 1)) $$ HPC
  isplitl [H1 H2]
  · isplitl [H1]; · iexact H1
    iexact H2
  isplitl [Ha Hb Hc Hd]
  · isplitl [Ha Hc]
    · isplitl [Ha]
      · isplitl [Ha]; · iexact Ha
        iexact Hra
      · isplitl [Hc]; · iexact Hc
        iexact Hrc
    · isplitl [Hb]
      · isplitl [Hb]; · iexact Hb
        iexact Hrb
      · isplitl [Hd]; · iexact Hd
        iexact Hrd
  isplitl [H6]; · iexact H6
  isplitl [H3 H4]
  · isplitl [H3 H4]
    · isplitl [H3]; · iexact H3
      iexact H4
    · iempintro
  isplitl [He]
  · iexists (∅ : Finset ℕ)
    isplitr; · ipureintro; exact ⟨Finset.empty_subset _, Nat.zero_le _⟩
    isplitl [He]; · iexact He
    rw [bigSep_empty]; iempintro
  isplitl [H7]; · iexact H7
  iexact H5

/-- What device `c` starts with. -/
def start (c : Dev nD) : sProp 𝕄 := iprop(∃ κ ν, PC X W κ ν ∗ Bar c ∗ bigSep Finset.univ (Begin (F := F) c))

theorem start_of (c : Dev nD) :
    iprop(levAts L lv ∗ Pipeline.launchCred (fun c : Dev nD => owed c 1) c ∗ G' X W c) ⊢ start X W c := by
  unfold G' start linear Know
  iintro ⟨#Hlev, Hcr, ⟨%κ, %ν, ⟨#H1, #H2, #H3⟩, HB, HL⟩⟩
  ihave Hcr := (expects (F := F) c) $$ Hcr
  icases Hcr with ⟨HcB, HC⟩
  iexists κ, ν
  have hPC : iprop((bigSep Finset.univ fun x : Dev nD × Ck => cellInv ER (Rd X W) (κ x) (cell x.1 x.2))
    ∗ (bigSep keys fun k => slotInv ES (ν k) k (slotOf k))
    ∗ (bigSep Finset.univ fun x : Dev nD × Ck => reached ER (cell x.1 x.2) 0) ∗ levAts L lv) ⊢ PC X W κ ν := by unfold PC; iintro H; iexact H
  ihave #HPC := hPC $$ []
  · isplitr; · iexact H1
    isplitr; · iexact H2
    isplitr; · iexact H3
    iexact Hlev
  isplitr; · iexact HPC
  isplitl [HB HcB]
  · unfold BarLin Bar
    icases HB with ⟨Ha, Hl, Hr⟩
    isplitl [Hl]; · iexact Hl
    isplitl [Hr]; · iexact Hr
    isplitl [HcB]; · iexact HcB
    iexact Ha
  · ihave HH := (Entails.of_eq (bigSep_sep' Finset.univ (fun r : Fin 8 => iprop(Lin (F := F) c 0 r ∗ Lin c 1 r)) (fun r => iprop((RcvC c 0 r 0 ∗ TakC c 0 r) ∗ (RcvC c 1 r 0 ∗ TakC c 1 r)))).symm) $$ [HL HC]
    · isplitl [HL]; · iexact HL
      iexact HC
    iapply (with_all (R := PC X W κ ν) (Φ := fun r : Fin 8 => iprop((Lin (F := F) c 0 r ∗ Lin c 1 r) ∗ ((RcvC c 0 r 0 ∗ TakC c 0 r) ∗ (RcvC c 1 r 0 ∗ TakC c 1 r)))) fun r _ => by
      have h : iprop(PC X W κ ν ∗ ((Lin (F := F) c 0 r ∗ Lin c 1 r) ∗ ((RcvC c 0 r 0 ∗ TakC c 0 r) ∗ (RcvC c 1 r 0 ∗ TakC c 1 r)))) ⊢ Begin c r := by
        unfold Begin
        iintro ⟨#HPC, ⟨H0, H1⟩, H2, H3⟩
        isplitl [H0 H2]
        · iapply (begin_ring X W κ ν c 0 r) $$ HPC H0 H2
        · iapply (begin_ring X W κ ν c 1 r) $$ HPC H1 H3
      exact h)
    isplitr; · iexact HPC
    iexact HH

end Deal

end Cert.KernelIdeal.Hand

end

end
-- ==== Proof.KernelIdeal.Memory.lean ====
/-
# The scratch buffers and their slots

A scratch buffer of sixteen slots held whole is the same as its sixteen slots held one by one.
-/
module

public import proofs.«01_k».proof.Proof.KernelIdeal.Credits
public import proofs.«01_k».proof.Proof.Gen.KernelIdeal.Launch
public import Idealize.ShloMosaic.Lib.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

theorem slot_mem (r : Fin 8) (j : Fin 2) (y : S8x2x512x256.Idx) : y ∈ (slotR r j).set ↔ (y 0).val = r.val ∧ (y 1).val = j.val := by
  rw [Rect.mem_set_unit]
  constructor
  · intro h
    have h0 := h 0; have h1 := h 1
    refine ⟨?_, ?_⟩
    · have a : r.val ≤ (y 0).val := h0.1
      have b : (y 0).val < r.val + 1 := h0.2
      omega
    · have a : j.val ≤ (y 1).val := h1.1
      have b : (y 1).val < j.val + 1 := h1.2
      omega
  · rintro ⟨h0, h1⟩ a
    have hy := (y a).isLt
    fin_cases a
    · exact ⟨h0.ge, (by rw [h0]; exact Nat.lt_succ_self _ : (y 0).val < r.val + 1)⟩
    · exact ⟨h1.ge, (by rw [h1]; exact Nat.lt_succ_self _ : (y 1).val < j.val + 1)⟩
    · exact ⟨Nat.zero_le _, (by rw [Nat.zero_add]; exact hy : (y 2).val < 0 + 512)⟩
    · exact ⟨Nat.zero_le _, (by rw [Nat.zero_add]; exact hy : (y 3).val < 0 + 256)⟩

theorem slots_disjoint (x x' : Fin 8 × Fin 2) (h : x ≠ x') : Disjoint (slotR x.1 x.2).set (slotR x'.1 x'.2).set :=
  Finset.disjoint_left.mpr fun y hy hy' => h (by
    have a := (slot_mem _ _ _).mp hy; have b := (slot_mem _ _ _).mp hy'
    exact Prod.ext (Fin.ext (a.1.symm.trans b.1)) (Fin.ext (a.2.symm.trans b.2)))

theorem slots_cover : (Finset.univ : Finset (Fin 8 × Fin 2)).biUnion (fun x => (slotR x.1 x.2).set) = Finset.univ :=
  Finset.eq_univ_of_forall fun y => Finset.mem_biUnion.mpr ⟨(y 0, y 1), Finset.mem_univ _, (slot_mem _ _ _).mpr ⟨rfl, rfl⟩⟩

omit [FloatOps F] in
theorem pair_slots (Φ : Fin 8 × Fin 2 → sProp 𝕄) :
    bigSep Finset.univ Φ = bigSep Finset.univ fun r : Fin 8 => iprop(Φ (r, 0) ∗ Φ (r, 1)) := by
  rw [bigSep_univ_prod]
  exact bigSep_congr fun r _ => bigSep_univ_eq_bigSepL [(0 : Fin 2), (1 : Fin 2)] (by decide) (by decide) _

omit [FloatOps F] in
theorem anySlot_st (c : Dev nD) (r : Fin 8) (j : Fin 2) : anySlot (F := F) c .st r j = slot ((c : Thread nD τ).loc cc0_scratch1) (slotR r j).set :=
  congrArg (slot ((c : Thread nD τ).loc cc0_scratch1)) (View.set_slice_whole cc0_scratch1 (slotR r j))
omit [FloatOps F] in
theorem anySlot_rs (c : Dev nD) (r : Fin 8) (j : Fin 2) : anySlot (F := F) c .rs r j = slot ((c : Thread nD τ).loc cc0_scratch2) (slotR r j).set :=
  congrArg (slot ((c : Thread nD τ).loc cc0_scratch2)) (View.set_slice_whole cc0_scratch2 (slotR r j))
omit [FloatOps F] in
theorem anySlot_ag (c : Dev nD) (r : Fin 8) (j : Fin 2) : anySlot (F := F) c .ag r j = slot ((c : Thread nD τ).loc cc0_scratch3) (slotR r j).set :=
  congrArg (slot ((c : Thread nD τ).loc cc0_scratch3)) (View.set_slice_whole cc0_scratch3 (slotR r j))

section One
variable (ℓ : Loc nD τ sig) (I : Fin 8 × Fin 2 → Finset (Idx ℓ)) (hd : ∀ x x', x ≠ x' → Disjoint (I x) (I x')) (hc : Finset.univ.biUnion I = Finset.univ)

omit [FloatOps F] in
include hd hc in
theorem whole_split : (iprop(∃ f : Buf (Elt F) ℓ, ℓ ↦{fullShare} f) : sProp 𝕄) ⊢ bigSep Finset.univ fun x => slot ℓ (I x) := by
  iintro ⟨%f, H⟩
  ihave H' := (Entails.of_eq (Ring.pointsTo_blocks I hd hc f)) $$ H
  iapply (show (bigSep Finset.univ fun x => (ℓ ↦[I x]{fullShare} f : sProp 𝕄)) ⊢ bigSep Finset.univ fun x => slot ℓ (I x) from
    bigSep_mono fun x _ => by
      have h : (ℓ ↦[I x]{fullShare} f : sProp 𝕄) ⊢ slot ℓ (I x) := by unfold slot; iintro H; iexists f; iexact H
      exact h)
  iexact H'

include hd hc in
theorem whole_join : (bigSep Finset.univ fun x => (slot ℓ (I x) : sProp 𝕄)) ⊢ iprop(∃ f : Buf (Elt F) ℓ, ℓ ↦{fullShare} f) :=
  Ring.pointsTo_blocks_join_exists I hd hc (Classical.arbitrary _)

end One

theorem st_slots (c : Dev nD) : (iprop(∃ f : Buf (Elt F) ((c : Thread nD τ).loc cc0_scratch1), ((c : Thread nD τ).loc cc0_scratch1) ↦{fullShare} f) : sProp 𝕄)
    ⊣⊢ bigSep Finset.univ fun r : Fin 8 => iprop(anySlot c .st r 0 ∗ anySlot c .st r 1) := by
  simp only [anySlot_st]
  rw [← pair_slots fun x => slot ((c : Thread nD τ).loc cc0_scratch1) (slotR x.1 x.2).set]
  exact ⟨whole_split ((c : Thread nD τ).loc cc0_scratch1) (fun x => (slotR x.1 x.2).set) slots_disjoint slots_cover, whole_join ((c : Thread nD τ).loc cc0_scratch1) (fun x => (slotR x.1 x.2).set) slots_disjoint slots_cover⟩
theorem rs_slots (c : Dev nD) : (iprop(∃ f : Buf (Elt F) ((c : Thread nD τ).loc cc0_scratch2), ((c : Thread nD τ).loc cc0_scratch2) ↦{fullShare} f) : sProp 𝕄)
    ⊣⊢ bigSep Finset.univ fun r : Fin 8 => iprop(anySlot c .rs r 0 ∗ anySlot c .rs r 1) := by
  simp only [anySlot_rs]
  rw [← pair_slots fun x => slot ((c : Thread nD τ).loc cc0_scratch2) (slotR x.1 x.2).set]
  exact ⟨whole_split ((c : Thread nD τ).loc cc0_scratch2) (fun x => (slotR x.1 x.2).set) slots_disjoint slots_cover, whole_join ((c : Thread nD τ).loc cc0_scratch2) (fun x => (slotR x.1 x.2).set) slots_disjoint slots_cover⟩
theorem ag_slots (c : Dev nD) : (iprop(∃ f : Buf (Elt F) ((c : Thread nD τ).loc cc0_scratch3), ((c : Thread nD τ).loc cc0_scratch3) ↦{fullShare} f) : sProp 𝕄)
    ⊣⊢ bigSep Finset.univ fun r : Fin 8 => iprop(anySlot c .ag r 0 ∗ anySlot c .ag r 1) := by
  simp only [anySlot_ag]
  rw [← pair_slots fun x => slot ((c : Thread nD τ).loc cc0_scratch3) (slotR x.1 x.2).set]
  exact ⟨whole_split ((c : Thread nD τ).loc cc0_scratch3) (fun x => (slotR x.1 x.2).set) slots_disjoint slots_cover, whole_join ((c : Thread nD τ).loc cc0_scratch3) (fun x => (slotR x.1 x.2).set) slots_disjoint slots_cover⟩

omit [FloatOps F] in
theorem slots_regroup (c : Dev nD) : (bigSep Finset.univ (Slots (F := F) c) : sProp 𝕄)
    = iprop((bigSep Finset.univ fun r : Fin 8 => iprop(anySlot c .st r 0 ∗ anySlot c .st r 1))
      ∗ (bigSep Finset.univ fun r : Fin 8 => iprop(anySlot c .rs r 0 ∗ anySlot c .rs r 1))
      ∗ (bigSep Finset.univ fun r : Fin 8 => iprop(anySlot c .ag r 0 ∗ anySlot c .ag r 1))) := by
  rw [← bigSep_sep', ← bigSep_sep']
  refine bigSep_congr fun r _ => ?_
  unfold Slots offer
  refine congrArg _ ?_
  exact (assoc_eq _ _ _).symm

/-- The scratch memory: the weights' copy and the slots. -/
theorem scratch_split (c : Dev nD) :
    (Pipeline.scopedRest (Ix := ℕ) (Name := ℕ) (U := UU) (Lvl := ℕ) (Val := Elt F) cfg0.spec c : sProp 𝕄) ⊢ iprop(bigSep Finset.univ (Slots (F := F) c) ∗ CAny (F := F) c) := by
  rw [scopedRest0_eq, slots_regroup]
  iintro ⟨H0, H1, H2, H3⟩
  isplitr [H0]
  · isplitl [H1]; · iapply (st_slots (F := F) c).1; iexact H1
    isplitl [H2]; · iapply (rs_slots (F := F) c).1; iexact H2
    iapply (ag_slots (F := F) c).1; iexact H3
  · unfold CAny; iexact H0

theorem scratch_join (c : Dev nD) :
    iprop(bigSep Finset.univ (Slots (F := F) c) ∗ CAny (F := F) c) ⊢ (Pipeline.scopedRest (Ix := ℕ) (Name := ℕ) (U := UU) (Lvl := ℕ) (Val := Elt F) cfg0.spec c : sProp 𝕄) := by
  rw [scopedRest0_eq, slots_regroup]
  iintro ⟨⟨H1, H2, H3⟩, H0⟩
  isplitl [H0]; · unfold CAny; iexact H0
  isplitl [H1]; · iapply (st_slots (F := F) c).2; iexact H1
  isplitl [H2]; · iapply (rs_slots (F := F) c).2; iexact H2
  iapply (ag_slots (F := F) c).2; iexact H3

end Cert.KernelIdeal.Hand

end

end
-- ==== Proof.KernelIdeal.Launch.lean ====
/-
# The run

The launch's side conditions and the run: every device ends with its result at the contents the body computes, its
arguments unchanged, and every semaphore counter at zero.
-/
module

public import proofs.«01_k».proof.Proof.KernelIdeal.Tokens
public import proofs.«01_k».proof.Proof.KernelIdeal.Memory
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory at launch. -/
abbrev s₀ : MemSt nD τ sig (Elt F) := ⟨m, fun _ => 0, ρ⟩

/-! ## The pipeline's data -/

/-- A device's block of rows and its weights, as staged. -/
def xIn (c : Dev nD) : Vec F S4096x512 .bf16 := (win0_0.blk t0_0).view.read (Elt F) (m ((c : Thread nD τ).loc main_arg0))
def wIn (c : Dev nD) : Vec F S512x2048 .bf16 := (win0_1.blk t0_0).view.read (Elt F) (m ((c : Thread nD τ).loc main_arg1))

/-- The result. -/
def yOut (c : Dev nD) : Vec F S4096x2048 .f32 := outF (xIn m) (wIn m) c fun _ => 8

def Φ₀ (c : Dev nD) : sProp 𝕄 := iprop(start (xIn m) (wIn m) c ∗ bigSep Finset.univ (Slots (F := F) c) ∗ CAny (F := F) c)
def Φ₁ (c : Dev nD) : sProp 𝕄 :=
  iprop((bigSep Finset.univ (Slots (F := F) c) ∗ CAny (F := F) c)
    ∗ (semVal (cell c .bar) 0 ∗ bigSep Finset.univ fun r => iprop(Zero (F := F) c 0 r ∗ Zero c 1 r)))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => yOut m c
  Φ t := match t with
    | ⟨0, _⟩ => Φ₀ m c
    | ⟨_ + 1, _⟩ => Φ₁ c
  q _ := fullShare
  owed t := match t with
    | ⟨0, _⟩ => owed c 1
    | ⟨_ + 1, _⟩ => 0

omit [FloatOps F] in
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (xIn m c) ∗ stg c cc0_stg1_0 (wIn m c) ∗ stg c cc0_stg2_0 (yOut m c))

theorem body_sound (c : Dev nD) : bodyPre m ρ c ⊢ wpC c (prog (F := F)) fun _ => bodyPost m ρ c := by
  unfold bodyPre Φ₀ start
  iintro ⟨⟨⟨%κ, %ν, #HPC, HB, Hb⟩, HS, HC⟩, Ho, ⟨%d0, %g0, %h0, Hx⟩, ⟨%d1, %g1, %h1, Hw⟩, ⟨%d2, %g2, %h2, Hout⟩⟩
  have e0 : g0 = xIn m c := by rw [h0]; unfold Dat.before; rw [if_pos (fetch0_0 t0_0)]; rfl
  have e1 : g1 = wIn m c := by rw [h1]; unfold Dat.before; rw [if_pos (fetch0_1 t0_0)]; rfl
  subst e0 e1
  unfold Dat.owesAt Pipeline.owesWithin
  icases Ho with ⟨%W, %hW, HO⟩
  rw [show (dats m ρ 0 c).owed t0_0.castSucc = owed c 1 from rfl]
  iapply (prog_run (xIn m) (wIn m) κ ν c (fun _ => bodyPost m ρ c)) $$ HPC [HO HB Hb HS HC Hx Hw Hout]
  · unfold Pre Ow XAt WAt OutAt
    isplitl [HO]; · iexists W; iexact HO
    isplitl [HB]; · iexact HB
    isplitl [Hb]; · iexact Hb
    isplitl [HS]; · iexact HS
    isplitl [Hx]; · iexact Hx
    isplitl [Hw]; · iexact Hw
    isplitl [HC]; · iexact HC
    iexists g2; iexact Hout
  unfold Post Ow XAt WAt OutAt bodyPost Φ₁ Dat.owesAt Pipeline.owesWithin
  rw [show (dats m ρ 0 c).owed t0_0.succ = 0 from rfl, owed_end]
  iintro ⟨⟨%W', HO⟩, HSC, HZ, Hx, Hw, Hout⟩
  isplitl [HSC HZ]
  · isplitl [HSC]; · iexact HSC
    iexact HZ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 100000 in
theorem body_obligation (c : Dev nD) : BodyObligation (dats (F := F) m ρ 0 c) (defs₀ (F := F)) 𝒱₀ 0 Set.univ := fun t => by
  rw [fin_N0 t, bigSep_W0, bigSep_W0]
  simp only [owns_whole_eq]
  show bodyPre m ρ c ⊢ wp frame (wpE (defs₀ (F := F)) 𝒱₀ c none) Set.univ (bodyAt0 (F := F) t0_0) (fun _ => bodyPost m ρ c)
  rw [body_eq]
  exact body_sound m ρ c

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c : Dev nD => owed c 1) c ∗ prngReg c (ρ c) ∗ G' (xIn m) (wIn m) c)
      ⊢ |={Set.univ}=> iprop(start (xIn m) (wIn m) c ∗ emp) := by
  iintro ⟨-, Hlev, Hcr, -, HG⟩
  imodintro
  isplitl
  · iapply (start_of (xIn m) (wIn m) c)
    isplitl [Hlev]; · iexact Hlev
    isplitl [Hcr]; · iexact Hcr
    iexact HG
  · iempintro

theorem phi0_intro (c : Dev nD) :
    iprop(start (xIn m) (wIn m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq, ownSems0_eq, own_split (fun k => semVal (cell c k) 0)]
  unfold Φ₁
  iintro ⟨HS, HB, HZ⟩
  isplitl [HB]; · iexact HB
  isplitl [HZ]; · iexact HZ
  iapply (scratch_join (F := F) c); iexact HS

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 1 (by decide) (.inl ⟨rfl, le_rfl⟩)
    · have h := mayWait (F := F) c (.dma ((cfg0.win w).sem s)) 0 227 (by decide) (.inl ⟨rfl, by decide⟩)
      rw [owed_end] at h
      exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, every weakly fair execution terminates, and every final state has each window's
    array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun c => owed c 1) (howed₀ := fun _ => rfl) (howedN := fun _ => rfl)
    (L := L) (lv := lv) (hL := L_of_ne) (hwaits := waits m ρ)
    (G := G (xIn m) (wIn m)) (G' := G' (xIn m) (wIn m)) (u₀ := u₀)
    (hu₀ := by
      unfold u₀
      iintro Hu
      ihave H := (ownU_pair _ _) $$ Hu
      icases H with ⟨HP, HX⟩
      ihave HX := (own_pair_emb embR _ _) $$ HX
      imod (fund_rings (xIn m) (wIn m)) $$ HX with HG
      imodintro
      isplitl [HP] <;> iassumption)
    (hglob := glob (xIn m) (wIn m))
    (hA := fun _ _ => rfl) (hpf := fun _ k => k.elim0)
    (X := start (xIn m) (wIn m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand

end

end
-- ==== Proof.KernelIdeal.Result.lean ====
/-
# What the run leaves

The arguments as they were, the result at the contents the body computes, every counter at zero.
-/
module

public import proofs.«01_k».proof.Proof.KernelIdeal.Launch
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

theorem kept_x (c : Dev nD) : finalA m ρ c (0 : Fin 3) = m ((c : Thread nD τ).loc main_arg0) := (dats m ρ 0 c).arrAt_in (0 : Fin 3) rfl _
theorem kept_w (c : Dev nD) : finalA m ρ c (1 : Fin 3) = m ((c : Thread nD τ).loc main_arg1) := (dats m ρ 0 c).arrAt_in (1 : Fin 3) rfl _

theorem final_y (c : Dev nD) : finalA m ρ c (2 : Fin 3) = yOut m c :=
  (dats m ρ 0 c).arrAt_eq_of_after_last (2 : Fin 3) t0_0 (by decide +kernel) (yOut m c) fun _ => rfl

/-- A block that is the whole array reads as the array. -/
theorem xIn_eq (c : Dev nD) : xIn m c = m ((c : Thread nD τ).loc main_arg0) :=
  Memref.read_access_unit_zero (Elt F) main_arg0 (funext fun a => by fin_cases a <;> decide +kernel) _ _

theorem wIn_eq (c : Dev nD) : wIn m c = m ((c : Thread nD τ).loc main_arg1) :=
  Memref.read_access_unit_zero (Elt F) main_arg1 (funext fun a => by fin_cases a <;> decide +kernel) _ _

theorem run_y : θ_run defs (onTc (τ := τ) (main (F := F))) (s₀ m ρ) fun r => (∀ c : Dev nD,
      r.2.mem ((c : Thread nD τ).loc main_v1) = yOut m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c (2 : Fin 3)).trans (final_y m ρ c),
    (h.1 c (0 : Fin 3)).trans (kept_x m ρ c), (h.1 c (1 : Fin 3)).trans (kept_w m ρ c)⟩, h.2⟩) (run_main m ρ)

end Cert.KernelIdeal.Hand

end

end
-- ==== Proof.KernelIdeal.Sum.lean ====
/-
# The result is the product

At the ideal values a message is a sum of partial products of the devices it has passed; after the first phase it is
the sum over all devices, and the second phase hands that round. The sum over the devices of the partial products is
the product of the whole arrays, its contracted axis cut into one stretch per device.
-/
module

public import proofs.«01_k».proof.Proof.KernelIdeal.Values
public import Idealize.ShloMosaic.Lib.MatmulPlain
public import Idealize.ShloMosaic.Lib.StackMember
public import Idealize.ShloMosaic.Lib.Layout
public import Idealize.ShloMosaic.Lib.ValueIdx
public import Idealize.ShloMosaic.Lib.Pipeline.Value

@[expose] public section

noncomputable section

namespace Cert.KernelIdeal.Hand

open Cert.KernelIdeal Cert.KernelIdeal.Gen
open Idealize.ShloMosaic Idealize.SL.Sem
open Idealize.ShloMosaic.ValueIdx

variable (X : Dev nD → Vec Ideal S4096x512 .bf16) (W : Dev nD → Vec Ideal S512x2048 .bf16)

/-! ## Messages as sums -/

/-- A staged block, read as a tile. -/
def tileOf (v : FVec Ideal S1x1x512x256 .bf16) : S512x256.Idx → Ideal .f32 := shapeCast S512x256 v shapeCasts_S1x1x512x256_S512x256

theorem tileOf_stgP (t : FVec Ideal S512x256 .f32) : tileOf (stgP t) = t :=
  shapeCast_shapeCast (fun i => (t i : Ideal .f32)) shapeCasts_S512x256_S1x1x512x256 shapeCasts_S1x1x512x256_S512x256

theorem accP_eq (o : FVec Ideal S512x256 .f32) (v : FVec Ideal S1x1x512x256 .bf16) (j : S512x256.Idx) : accP o v j = o j + tileOf v j := by
  unfold accP
  rw [shapeCast_self]
  rfl

theorem outP_eq (v : FVec Ideal S1x1x512x256 .bf16) : outP v = tileOf v := rfl

/-- The device `s` steps back along a ring. -/
def back (r : Fin 8) (s : ℕ) (c : Dev nD) : Dev nD := (wrtD r)^[s] c

/-- The block of rows message `t` is about. -/
def rowN (r : Fin 8) : ℕ → Dev nD → ℕ
  | 0, c => c.val
  | t + 1, c => chunkN 0 r t c.val

theorem rowN_back (r : Fin 8) (t : Fin 7) (c : Dev nD) : rowN r t.val (wrtD r c) = chunkN 0 r t.val c.val := by
  revert r t c; decide +kernel

theorem back_all (r : Fin 8) (c : Dev nD) : Function.Bijective fun s : Fin 8 => back r s.val c := by
  revert r c; decide +kernel

theorem chunk_back (r : Fin 8) (s : Fin 7) (c : Dev nD) : chunkN 1 r s.val c.val = chunkN 0 r 6 (back r (s.val + 1) c).val := by
  revert r s c; decide +kernel

theorem chunk_all (r : Fin 8) (k : Fin 8) (c : Dev nD) : ∃ s : Fin 8, chunkN 0 r 6 (back r s.val c).val = k.val := by
  revert r k c; decide +kernel

theorem M0_sum (r : Fin 8) (j : S512x256.Idx) : ∀ (t : ℕ) (_ : t < 8) (c : Dev nD),
    tileOf (M0 X W r t c) j = ∑ s ∈ Finset.range (t + 1), pT X W (back r s c) r (rowN r t c) j
  | 0, _, c => by
    rw [Finset.sum_range_one]
    show tileOf (stgP _) j = _
    rw [tileOf_stgP, shapeCast_self]
    rfl
  | t + 1, h, c => by
    show tileOf (stgP _) j = _
    rw [tileOf_stgP, accP_eq, M0_sum r j t (by omega), Finset.sum_range_succ' _ (t + 1), rowN_back r ⟨t, by omega⟩ c, add_comm]
    rfl

/-- The sum over the devices of the partial products. -/
def allT (r : Fin 8) (k : ℕ) : S512x256.Idx → Ideal .f32 := fun j => ∑ d : Dev nD, pT X W d r k j

theorem M0_all (r : Fin 8) (c : Dev nD) : tileOf (M0 X W r 7 c) = allT X W r (chunkN 0 r 6 c.val) := by
  funext j
  rw [M0_sum X W r j 7 (by decide) c, Finset.sum_range]
  exact Function.Bijective.sum_comp (back_all r c) fun d => pT X W d r (chunkN 0 r 6 c.val) j

theorem sumT_all (c : Dev nD) (r : Fin 8) : sumT X W c r = allT X W r (chunkN 0 r 6 c.val) := by
  rw [← M0_all]; exact (tileOf_stgP _).symm

theorem M1_all (r : Fin 8) : ∀ (t : ℕ) (c : Dev nD), tileOf (M1 X W r t c) = allT X W r (chunkN 0 r 6 (back r t c).val)
  | 0, c => M0_all X W r c
  | t + 1, c => M1_all r t (wrtD r c)

theorem gR_all (c : Dev nD) (r : Fin 8) : ∀ (n : ℕ) (_ : n < 8) (s : ℕ) (_ : s ≤ n),
    gR X W c r (n + 1) (chunkN 0 r 6 (back r s c).val) = allT X W r (chunkN 0 r 6 (back r s c).val)
  | 0, _, s, hs => by
    obtain rfl : s = 0 := by omega
    show Function.update _ (chunkN 0 r 6 c.val) _ (chunkN 0 r 6 c.val) = _
    rw [Function.update_self, sumT_all]; rfl
  | n + 1, hn, s, hs => by
    show Function.update _ (chunkN 1 r n c.val) _ _ = _
    rw [chunk_back r ⟨n, by omega⟩ c]
    by_cases h : chunkN 0 r 6 (back r s c).val = chunkN 0 r 6 (back r (n + 1) c).val
    · rw [h, Function.update_self, outP_eq, M1_all]; rfl
    · rw [Function.update_of_ne h]
      exact gR_all c r n (by omega) s (by
        rcases Nat.lt_or_ge s (n + 1) with h' | h'
        · omega
        · exact absurd (by rw [show s = n + 1 by omega]) h)

theorem gR_eight (c : Dev nD) (r : Fin 8) (k : ℕ) (hk : k < 8) : gR X W c r 8 k = allT X W r k := by
  obtain ⟨s, hs⟩ := chunk_all r ⟨k, hk⟩ c
  have h := gR_all X W c r 7 (by decide) s.val (by omega)
  rw [hs] at h
  exact h

/-! ## The product -/

theorem mulT_apply (d : Dev nD) (k : ℕ) (a : Fin 512) (b : Fin 2048) :
    mulT X W d k (ix2 a b) = ∑ x : Fin 512, rowsX X d k (ix2 a x) * W d (ix2 x b) := by
  unfold mulT mulP k0_pay3
  simp only [shapeCast_self]
  refine (Ideal.matmul_plain_apply (M := 512) (K := 512) (N := 2048) none (rowsX X d k) (W d) _ a b).trans ?_
  rw [show (constant S512x2048 .f32 0x00000000#32 : FVec Ideal S512x2048 .f32) (ix2 a b) = 0 from by simp [constant]]
  exact zero_add _

variable (A : FVec Ideal ⟨2, ![4096, 4096]⟩ .bf16) (B : FVec Ideal ⟨2, ![4096, 2048]⟩ .bf16)

/-- The contracted axis, one stretch per device. -/
theorem sum_stretches (f : Fin 4096 → Ideal .f32) :
    ∑ y, f y = ∑ d : Dev nD, ∑ x : Fin 512, f ⟨512 * d.val + x.val, by have := d.isLt; have := x.isLt; simp only [nD] at *; omega⟩ := by
  rw [← Equiv.sum_comp (finProdFinEquiv (m := 8) (n := 512)), Fintype.sum_prod_type]
  refine Finset.sum_congr rfl fun d _ => Finset.sum_congr rfl fun x _ => congrArg f (Fin.ext ?_)
  show x.val + 512 * d.val = 512 * d.val + x.val
  omega

theorem outF_eq (hX : ∀ c : Dev nD, X c = Layout.block ⟨2, ![4096, 512]⟩ ⟨2, ![4096, 4096]⟩ 1 8 c A)
    (hW : ∀ c : Dev nD, W c = Layout.block ⟨2, ![512, 2048]⟩ ⟨2, ![4096, 2048]⟩ 0 8 c B) (c : Dev nD) :
    outF X W c (fun _ => 8) = Host.dotGeneral (F := Ideal) (DotDims.plain 4096 4096 2048) none A B := by
  funext i
  obtain ⟨a, b, rfl⟩ : ∃ a b, i = ix2 a b := ⟨i 0, i 1, eq_ix2 i⟩
  have ha := a.isLt
  have hb := b.isLt
  rw [StackMember.dotGeneral_plain_apply, sum_stretches]
  unfold outF
  rw [gR_eight X W c _ _ (by show a.val / 512 < 8; omega)]
  refine Finset.sum_congr rfl fun d _ => ?_
  refine (mulT_apply X W d _ _ _).trans (Finset.sum_congr rfl fun x _ => ?_)
  rw [hW d]
  unfold rowsX
  rw [hX d, Layout.block_apply, Layout.block_apply]
  refine congrArg₂ (· * ·) (congrArg A ?_) (congrArg B ?_)
  · refine Shape.idx_ext₂ ?_ ?_ <;> rw [Layout.Tiles.idx_val]
    · show (512 * (a.val / 512) + a.val % 512) % 4096 = a.val; omega
    · show d.val * 512 + x.val = 512 * d.val + x.val; omega
  · refine Shape.idx_ext₂ ?_ ?_ <;> rw [Layout.Tiles.idx_val]
    · show d.val * 512 + x.val = 512 * d.val + x.val; omega
    · exact col_ring b.val hb

end Cert.KernelIdeal.Hand

end
end
-- ==== Proof.lean ====
/-
# The claims

The kernel as printed and its idealization run and leave every counter at zero, the reference runs, and the
idealization computes what the reference computes.
-/
module

public import proofs.«01_k».proof.Defs
public import proofs.«01_k».proof.Proof.Kernel.Result
public import proofs.«01_k».proof.Proof.KernelIdeal.Result
public import proofs.«01_k».proof.Proof.KernelIdeal.Sum
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem frame_p : Cert.quiescent_Kernel (hKernel := Cert.Kernel.Gen.facts) := fun m g _ =>
  (θ_run Cert.Kernel.defs _ _).mono (fun _ h => ⟨fun c => (h.1 c).2, h.2⟩) (Cert.Kernel.Hand.run_y (F := Bits) m g)

theorem frame_pi : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run_y (F := Ideal) m g)

theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal (hKernelIdeal := Cert.KernelIdeal.Gen.facts)
    (hReferenceIdeal := Cert.ReferenceIdeal.Gen.facts) := fun m g m' g' _ hA =>
  ⟨_, (θ_run Cert.KernelIdeal.defs _ _).mono
      (fun _ h c => ⟨(h.1 c).1.trans (Cert.KernelIdeal.Hand.outF_eq _ _ _ _
        (fun d => (Cert.KernelIdeal.Hand.xIn_eq m d).trans (hA d).1)
        (fun d => (Cert.KernelIdeal.Hand.wIn_eq m d).trans (hA d).2) c), (h.1 c).2⟩)
      (Cert.KernelIdeal.Hand.run_y (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, trivial, value⟩

end Cert.Proof

end

end
